-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_VerbatimIdeal (m : (ℓ : Loc Cert.VerbatimIdeal.nD Cert.VerbatimIdeal.τ Cert.VerbatimIdeal.sig) → Buf (Elt Ideal) ℓ) : Prop :=
  True

def Pre_Rows (m : (ℓ : Loc Cert.Rows.nD Cert.Rows.τ Cert.Rows.sig) → Buf (Elt Bits) ℓ) : Prop :=
  True

def Pre_RowsIdeal (m : (ℓ : Loc Cert.RowsIdeal.nD Cert.RowsIdeal.τ Cert.RowsIdeal.sig) → Buf (Elt Ideal) ℓ) : Prop :=
  True

def Pre_RowsReferenceIdeal (m : (ℓ : Loc Cert.RowsReferenceIdeal.nD Cert.RowsReferenceIdeal.τ Cert.RowsReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def quiescent_VerbatimIdeal [hVerbatimIdeal : Cert.VerbatimIdeal.Facts] : Prop :=
  ∀ (m : (ℓ : Loc Cert.VerbatimIdeal.nD Cert.VerbatimIdeal.τ Cert.VerbatimIdeal.sig) → Buf (Elt Ideal) ℓ) (g : Dev Cert.VerbatimIdeal.nD → PrngReg), Pre_VerbatimIdeal m →
    θ_run (Cert.VerbatimIdeal.defs (F := Ideal)) (Cert.VerbatimIdeal.threads (F := Ideal)) ⟨m, fun _ => 0, g⟩ (fun r => (∀ c : Dev Cert.VerbatimIdeal.nD,
      r.2.mem ((c.tc : Thread Cert.VerbatimIdeal.nD Cert.VerbatimIdeal.τ).loc Cert.VerbatimIdeal.main_arg0) = m ((c.tc : Thread Cert.VerbatimIdeal.nD Cert.VerbatimIdeal.τ).loc Cert.VerbatimIdeal.main_arg0))
      ∧ r.2.sem = fun _ => 0)

def quiescent_Rows [hRows : Cert.Rows.Facts] : Prop :=
  ∀ (m : (ℓ : Loc Cert.Rows.nD Cert.Rows.τ Cert.Rows.sig) → Buf (Elt Bits) ℓ) (g : Dev Cert.Rows.nD → PrngReg), Pre_Rows m →
    θ_run (Cert.Rows.defs (F := Bits)) (Cert.Rows.threads (F := Bits)) ⟨m, fun _ => 0, g⟩ (fun r => (∀ c : Dev Cert.Rows.nD,
      r.2.mem ((c.tc : Thread Cert.Rows.nD Cert.Rows.τ).loc Cert.Rows.main_arg0) = m ((c.tc : Thread Cert.Rows.nD Cert.Rows.τ).loc Cert.Rows.main_arg0))
      ∧ r.2.sem = fun _ => 0)

def quiescent_RowsIdeal [hRowsIdeal : Cert.RowsIdeal.Facts] : Prop :=
  ∀ (m : (ℓ : Loc Cert.RowsIdeal.nD Cert.RowsIdeal.τ Cert.RowsIdeal.sig) → Buf (Elt Ideal) ℓ) (g : Dev Cert.RowsIdeal.nD → PrngReg), Pre_RowsIdeal m →
    θ_run (Cert.RowsIdeal.defs (F := Ideal)) (Cert.RowsIdeal.threads (F := Ideal)) ⟨m, fun _ => 0, g⟩ (fun r => (∀ c : Dev Cert.RowsIdeal.nD,
      r.2.mem ((c.tc : Thread Cert.RowsIdeal.nD Cert.RowsIdeal.τ).loc Cert.RowsIdeal.main_arg0) = m ((c.tc : Thread Cert.RowsIdeal.nD Cert.RowsIdeal.τ).loc Cert.RowsIdeal.main_arg0))
      ∧ r.2.sem = fun _ => 0)

def quiescent_RowsReferenceIdeal [hRowsReferenceIdeal : Cert.RowsReferenceIdeal.Facts] : Prop :=
  ∀ (m : (ℓ : Loc Cert.RowsReferenceIdeal.nD Cert.RowsReferenceIdeal.τ Cert.RowsReferenceIdeal.sig) → Buf (Elt Ideal) ℓ) (g : Dev Cert.RowsReferenceIdeal.nD → PrngReg), Pre_RowsReferenceIdeal m →
    θ_run (Cert.RowsReferenceIdeal.defs (F := Ideal)) (onTc (τ := Cert.RowsReferenceIdeal.τ) (Cert.RowsReferenceIdeal.main (F := Ideal))) ⟨m, fun _ => 0, g⟩ (fun r => (∀ c : Dev Cert.RowsReferenceIdeal.nD,
      r.2.mem ((c.tc : Thread Cert.RowsReferenceIdeal.nD Cert.RowsReferenceIdeal.τ).loc Cert.RowsReferenceIdeal.main_arg0) = m ((c.tc : Thread Cert.RowsReferenceIdeal.nD Cert.RowsReferenceIdeal.τ).loc Cert.RowsReferenceIdeal.main_arg0))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v21)) (v1 : (c : Dev Cert.KernelIdeal.nD) → Buf (Elt Ideal) ((c.tc : Thread Cert.KernelIdeal.nD Cert.KernelIdeal.τ).loc Cert.KernelIdeal.main_v9_1)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v21) = v0 c
          ∧ r.2.mem ((c.tc : Thread Cert.KernelIdeal.nD Cert.KernelIdeal.τ).loc Cert.KernelIdeal.main_v9_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v2) = v0 c
          ∧ r.2.mem ((c.tc : Thread Cert.ReferenceIdeal.nD Cert.ReferenceIdeal.τ).loc Cert.ReferenceIdeal.main_arg0) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def algebraic_VerbatimIdeal_ReferenceIdeal [hVerbatimIdeal : Cert.VerbatimIdeal.Facts] [hReferenceIdeal : Cert.ReferenceIdeal.Facts] : Prop :=
  ∀ (m : (ℓ : Loc Cert.VerbatimIdeal.nD Cert.VerbatimIdeal.τ Cert.VerbatimIdeal.sig) → Buf (Elt Ideal) ℓ) (g : Dev Cert.VerbatimIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_VerbatimIdeal m →
    (∀ c : Dev Cert.VerbatimIdeal.nD,
      m' ((c.tc : Thread Cert.ReferenceIdeal.nD Cert.ReferenceIdeal.τ).loc Cert.ReferenceIdeal.main_arg0) = m ((c.tc : Thread Cert.VerbatimIdeal.nD Cert.VerbatimIdeal.τ).loc Cert.VerbatimIdeal.main_arg0)) →
    ∃ (v0 : (c : Dev Cert.VerbatimIdeal.nD) → Buf (Elt Ideal) ((c.tc : Thread Cert.VerbatimIdeal.nD Cert.VerbatimIdeal.τ).loc Cert.VerbatimIdeal.main_v18)) (v1 : (c : Dev Cert.VerbatimIdeal.nD) → Buf (Elt Ideal) ((c.tc : Thread Cert.VerbatimIdeal.nD Cert.VerbatimIdeal.τ).loc Cert.VerbatimIdeal.main_v6_1)),
      θ_run (Cert.VerbatimIdeal.defs (F := Ideal)) (Cert.VerbatimIdeal.threads (F := Ideal)) ⟨m, fun _ => 0, g⟩ (fun r => ∀ c : Dev Cert.VerbatimIdeal.nD,
          r.2.mem ((c.tc : Thread Cert.VerbatimIdeal.nD Cert.VerbatimIdeal.τ).loc Cert.VerbatimIdeal.main_v18) = v0 c
          ∧ r.2.mem ((c.tc : Thread Cert.VerbatimIdeal.nD Cert.VerbatimIdeal.τ).loc Cert.VerbatimIdeal.main_v6_1) = v1 c
          ∧ r.2.mem ((c.tc : Thread Cert.VerbatimIdeal.nD Cert.VerbatimIdeal.τ).loc Cert.VerbatimIdeal.main_arg0) = m ((c.tc : Thread Cert.VerbatimIdeal.nD Cert.VerbatimIdeal.τ).loc Cert.VerbatimIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v2) = v0 c
          ∧ r.2.mem ((c.tc : Thread Cert.ReferenceIdeal.nD Cert.ReferenceIdeal.τ).loc Cert.ReferenceIdeal.main_arg0) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def preserves_Rows_RowsIdeal : Prop :=
  True

def algebraic_RowsIdeal_RowsReferenceIdeal [hRowsIdeal : Cert.RowsIdeal.Facts] [hRowsReferenceIdeal : Cert.RowsReferenceIdeal.Facts] : Prop :=
  ∀ (m : (ℓ : Loc Cert.RowsIdeal.nD Cert.RowsIdeal.τ Cert.RowsIdeal.sig) → Buf (Elt Ideal) ℓ) (g : Dev Cert.RowsIdeal.nD → PrngReg)
    (m' : (ℓ : Loc Cert.RowsReferenceIdeal.nD Cert.RowsReferenceIdeal.τ Cert.RowsReferenceIdeal.sig) → Buf (Elt Ideal) ℓ) (g' : Dev Cert.RowsReferenceIdeal.nD → PrngReg), Pre_RowsIdeal m →
    (∀ c : Dev Cert.RowsIdeal.nD,
      m' ((c.tc : Thread Cert.RowsReferenceIdeal.nD Cert.RowsReferenceIdeal.τ).loc Cert.RowsReferenceIdeal.main_arg0) = m ((c.tc : Thread Cert.RowsIdeal.nD Cert.RowsIdeal.τ).loc Cert.RowsIdeal.main_arg0)) →
    ∃ (v0 : (c : Dev Cert.RowsIdeal.nD) → Buf (Elt Ideal) ((c.tc : Thread Cert.RowsIdeal.nD Cert.RowsIdeal.τ).loc Cert.RowsIdeal.main_v2)),
      θ_run (Cert.RowsIdeal.defs (F := Ideal)) (Cert.RowsIdeal.threads (F := Ideal)) ⟨m, fun _ => 0, g⟩ (fun r => ∀ c : Dev Cert.RowsIdeal.nD,
          r.2.mem ((c.tc : Thread Cert.RowsIdeal.nD Cert.RowsIdeal.τ).loc Cert.RowsIdeal.main_v2) = v0 c
          ∧ r.2.mem ((c.tc : Thread Cert.RowsIdeal.nD Cert.RowsIdeal.τ).loc Cert.RowsIdeal.main_arg0) = m ((c.tc : Thread Cert.RowsIdeal.nD Cert.RowsIdeal.τ).loc Cert.RowsIdeal.main_arg0))
      ∧ θ_run (Cert.RowsReferenceIdeal.defs (F := Ideal)) (onTc (τ := Cert.RowsReferenceIdeal.τ) (Cert.RowsReferenceIdeal.main (F := Ideal))) ⟨m', fun _ => 0, g'⟩ (fun r => ∀ c : Dev Cert.RowsReferenceIdeal.nD,
          r.2.mem ((c.tc : Thread Cert.RowsReferenceIdeal.nD Cert.RowsReferenceIdeal.τ).loc Cert.RowsReferenceIdeal.main_v2) = v0 c
          ∧ r.2.mem ((c.tc : Thread Cert.RowsReferenceIdeal.nD Cert.RowsReferenceIdeal.τ).loc Cert.RowsReferenceIdeal.main_arg0) = m' ((c.tc : Thread Cert.RowsReferenceIdeal.nD Cert.RowsReferenceIdeal.τ).loc Cert.RowsReferenceIdeal.main_arg0))

def Claim : Prop :=
  ∃ (hKernel : Cert.Kernel.Facts) (hKernelIdeal : Cert.KernelIdeal.Facts) (hReferenceIdeal : Cert.ReferenceIdeal.Facts) (hVerbatimIdeal : Cert.VerbatimIdeal.Facts) (hRows : Cert.Rows.Facts) (hRowsIdeal : Cert.RowsIdeal.Facts) (hRowsReferenceIdeal : Cert.RowsReferenceIdeal.Facts),
    quiescent_Kernel (hKernel := hKernel)
    ∧ quiescent_KernelIdeal (hKernelIdeal := hKernelIdeal)
    ∧ quiescent_ReferenceIdeal (hReferenceIdeal := hReferenceIdeal)
    ∧ quiescent_VerbatimIdeal (hVerbatimIdeal := hVerbatimIdeal)
    ∧ quiescent_Rows (hRows := hRows)
    ∧ quiescent_RowsIdeal (hRowsIdeal := hRowsIdeal)
    ∧ quiescent_RowsReferenceIdeal (hRowsReferenceIdeal := hRowsReferenceIdeal)
    ∧ preserves_Kernel_KernelIdeal
    ∧ algebraic_KernelIdeal_ReferenceIdeal (hKernelIdeal := hKernelIdeal) (hReferenceIdeal := hReferenceIdeal)
    ∧ algebraic_VerbatimIdeal_ReferenceIdeal (hVerbatimIdeal := hVerbatimIdeal) (hReferenceIdeal := hReferenceIdeal)
    ∧ preserves_Rows_RowsIdeal
    ∧ algebraic_RowsIdeal_RowsReferenceIdeal (hRowsIdeal := hRowsIdeal) (hRowsReferenceIdeal := hRowsReferenceIdeal)
-- ==== Kernel.lean ====
abbrev S3x64x256x256 : Shape := ⟨4, ![3, 64, 256, 256]⟩
abbrev S16 : Shape := ⟨1, ![16]⟩
abbrev S_ : Shape := ⟨0, ![]⟩
abbrev S3x16x256x256 : Shape := ⟨4, ![3, 16, 256, 256]⟩
abbrev S1x4x256x256 : Shape := ⟨4, ![1, 4, 256, 256]⟩
abbrev S1x1x256x256 : Shape := ⟨4, ![1, 1, 256, 256]⟩
abbrev S1 : Shape := ⟨1, ![1]⟩
abbrev S3072x4096 : Shape := ⟨2, ![3072, 4096]⟩
abbrev S768x4096 : Shape := ⟨2, ![768, 4096]⟩
abbrev S24x4096 : Shape := ⟨2, ![24, 4096]⟩
abbrev S1x1 : Shape := ⟨2, ![1, 1]⟩
abbrev S4 : Shape := ⟨1, ![4]⟩

abbrev nBuf : Table → Nat
  | .hbm => 31
  | .local .tc .vmem => 6
  | .local .tc .smem => 1
  | .local .scVector .vmem => 1
  | _ => 0

abbrev bufTy : (tb : Table) → Fin (nBuf tb) → BufTy
  | .hbm, ⟨0, _⟩ => ⟨S3x64x256x256, .f32⟩
  | .hbm, ⟨1, _⟩ => ⟨S16, .i32⟩
  | .hbm, ⟨2, _⟩ => ⟨S_, .i32⟩
  | .hbm, ⟨3, _⟩ => ⟨S16, .i32⟩
  | .hbm, ⟨4, _⟩ => ⟨S16, .i32⟩
  | .hbm, ⟨5, _⟩ => ⟨S_, .i32⟩
  | .hbm, ⟨6, _⟩ => ⟨S16, .i32⟩
  | .hbm, ⟨7, _⟩ => ⟨S16, .i32⟩
  | .hbm, ⟨8, _⟩ => ⟨S16, .i32⟩
  | .hbm, ⟨9, _⟩ => ⟨S_, .i32⟩
  | .hbm, ⟨10, _⟩ => ⟨S16, .i32⟩
  | .hbm, ⟨11, _⟩ => ⟨S16, .i32⟩
  | .hbm, ⟨12, _⟩ => ⟨S3x16x256x256, .f32⟩
  | .hbm, ⟨13, _⟩ => ⟨S3x64x256x256, .f32⟩
  | .hbm, ⟨14, _⟩ => ⟨S3072x4096, .f32⟩
  | .hbm, ⟨15, _⟩ => ⟨S768x4096, .f32⟩
  | .hbm, ⟨16, _⟩ => ⟨S768x4096, .f32⟩
  | .hbm, ⟨17, _⟩ => ⟨S1x1, .f32⟩
  | .hbm, ⟨18, _⟩ => ⟨S_, .f32⟩
  | .hbm, ⟨19, _⟩ => ⟨S_, .f32⟩
  | .hbm, ⟨20, _⟩ => ⟨S_, .f32⟩
  | .hbm, ⟨21, _⟩ => ⟨S_, .i32⟩
  | .hbm, ⟨22, _⟩ => ⟨S1, .i32⟩
  | .hbm, ⟨23, _⟩ => ⟨S_, .i32⟩
  | .hbm, ⟨24, _⟩ => ⟨S1, .i32⟩
  | .hbm, ⟨25, _⟩ => ⟨S_, .i32⟩
  | .hbm, ⟨26, _⟩ => ⟨S1, .i32⟩
  | .hbm, ⟨27, _⟩ => ⟨S_, .i32⟩
  | .hbm, ⟨28, _⟩ => ⟨S1, .i32⟩
  | .hbm, ⟨29, _⟩ => ⟨S4, .i32⟩
  | .hbm, ⟨30, _⟩ => ⟨S3x16x256x256, .f32⟩
  | .local .tc .vmem, ⟨0, _⟩ => ⟨S1x4x256x256, .f32⟩
  | .local .tc .vmem, ⟨1, _⟩ => ⟨S1x4x256x256, .f32⟩
  | .local .tc .vmem, ⟨2, _⟩ => ⟨S1x1x256x256, .f32⟩
  | .local .tc .vmem, ⟨3, _⟩ => ⟨S1x1x256x256, .f32⟩
  | .local .tc .vmem, ⟨4, _⟩ => ⟨S1x4x256x256, .f32⟩
  | .local .tc .vmem, ⟨5, _⟩ => ⟨S1x4x256x256, .f32⟩
  | .local .tc .smem, ⟨0, _⟩ => ⟨S16, .i32⟩
  | .local .scVector .vmem, ⟨0, _⟩ => ⟨S24x4096, .f32⟩
  | _, _ => ⟨S3x64x256x256, .f32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => false
  | ⟨7, _⟩ => false
  | _ => false

abbrev sig : RefSig :=
  ofTables nBuf rfl bufTy 4 8 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_c : Ref sig .tc := ⟨.hbm, 2, rfl⟩
abbrev main_v1 : Ref sig .tc := ⟨.hbm, 3, rfl⟩
abbrev main_v2 : Ref sig .tc := ⟨.hbm, 4, rfl⟩
abbrev main_c_0 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_c_1 : Ref sig .tc := ⟨.hbm, 9, rfl⟩
abbrev main_v6 : Ref sig .tc := ⟨.hbm, 10, rfl⟩
abbrev main_v7 : Ref sig .tc := ⟨.hbm, 11, rfl⟩
abbrev main_v9_0 : Ref sig .tc := ⟨.hbm, 12, rfl⟩
abbrev main_v9_1 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_cst : Ref sig .tc := ⟨.hbm, 19, rfl⟩
abbrev main_v15 : Ref sig .tc := ⟨.hbm, 20, rfl⟩
abbrev main_c_2 : Ref sig .tc := ⟨.hbm, 21, rfl⟩
abbrev main_v16 : Ref sig .tc := ⟨.hbm, 22, rfl⟩
abbrev main_c_3 : Ref sig .tc := ⟨.hbm, 23, rfl⟩
abbrev main_v17 : Ref sig .tc := ⟨.hbm, 24, rfl⟩
abbrev main_c_4 : Ref sig .tc := ⟨.hbm, 25, rfl⟩
abbrev main_v18 : Ref sig .tc := ⟨.hbm, 26, rfl⟩
abbrev main_c_5 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v8 : Ref sig .tc := ⟨.smem, 0, rfl⟩
abbrev main_v11_scv : Ref sig .scVector := ⟨.hbm, 15, rfl⟩
abbrev main_v12_scv : Ref sig .scVector := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_scratch0 : Ref sig .scVector := ⟨.vmem, 0, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![3, 16], ![false, false]⟩

abbrev pre0 : Pipeline.Prefetch sig := ⟨1, ![main_v8.idx], fun | 0 => main_v8.names | ⟨_ + 1, h⟩ => absurd h (Nat.not_lt.2 (Nat.le_add_left _ _)), fun | 0 => rfl | ⟨_ + 1, h⟩ => absurd h (Nat.not_lt.2 (Nat.le_add_left _ _))⟩

def k0_off1 (i : grid0.Coords) : Fin 1 → Nat :=
  let arg1 : BitVec 32 := BitVec.ofNat 32 (i 1).val
  let v2 : Index := Scalar.indexCast arg1
  ![v2.toNat]
def k0_off2 (v3 : BitVec 32) : Fin 4 → Nat :=
  let c0_7 : Index := 0#32
  let v4 : Index := Scalar.indexCast v3
  let c0_8 : Index := 0#32
  let c0_9 : Index := 0#32
  ![0, v4.toNat, 0, 0]

def k0_chk1 (v3 : BitVec 32) : Prop :=
  (∀ a, (k0_off2 v3) a + S1x1x256x256.size a ≤ S1x4x256x256.size a)
theorem k0_off2_inb : ∀ (v3 : BitVec 32) (k0_hw1 : k0_chk1 v3), ∀ a, (k0_off2 v3) a + S1x1x256x256.size a ≤ S1x4x256x256.size a := fun v3 k0_hw1 => k0_hw1

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S1x4x256x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x256x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x4x256x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev grid1 : Pipeline.Grid := ⟨2, ![2, 16], ![false, false]⟩

def k1_off1 (i : grid1.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c24_i32 : BitVec 32 := 24#32
  let v2 : BitVec 32 := Scalar.muli v1 c24_i32
  let c0_i32_r0 : BitVec 32 := 0#32
  ![v2.toNat, 0]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S3x64x256x256 : Shape := ⟨4, ![3, 64, 256, 256]⟩
abbrev S_ : Shape := ⟨0, ![]⟩
abbrev S15 : Shape := ⟨1, ![15]⟩
abbrev S1 : Shape := ⟨1, ![1]⟩
abbrev S16 : Shape := ⟨1, ![16]⟩
abbrev S16x1 : Shape := ⟨2, ![16, 1]⟩
abbrev S1x1 : Shape := ⟨2, ![1, 1]⟩
abbrev S3x16x256x256 : Shape := ⟨4, ![3, 16, 256, 256]⟩

abbrev nBuf : Space → Nat
  | .hbm => 48
  | .vmem => 0
  | .smem => 0
  | _ => 0

abbrev bufTy : (tb : Table) → Fin (tcTables nBuf tb) → BufTy
  | .hbm, ⟨0, _⟩ => ⟨S3x64x256x256, .f32⟩
  | .hbm, ⟨1, _⟩ => ⟨S_, .i32⟩
  | .hbm, ⟨2, _⟩ => ⟨S_, .i32⟩
  | .hbm, ⟨3, _⟩ => ⟨S_, .f32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S15, .f32⟩
  | .hbm, ⟨9, _⟩ => ⟨S_, .f32⟩
  | .hbm, ⟨10, _⟩ => ⟨S15, .f32⟩
  | .hbm, ⟨11, _⟩ => ⟨S15, .f32⟩
  | .hbm, ⟨12, _⟩ => ⟨S1, .f32⟩
  | .hbm, ⟨13, _⟩ => ⟨S_, .f32⟩
  | .hbm, ⟨14, _⟩ => ⟨S15, .f32⟩
  | .hbm, ⟨15, _⟩ => ⟨S15, .f32⟩
  | .hbm, ⟨16, _⟩ => ⟨S15, .f32⟩
  | .hbm, ⟨17, _⟩ => ⟨S15, .f32⟩
  | .hbm, ⟨18, _⟩ => ⟨S1, .f32⟩
  | .hbm, ⟨19, _⟩ => ⟨S15, .f32⟩
  | .hbm, ⟨20, _⟩ => ⟨S15, .f32⟩
  | .hbm, ⟨21, _⟩ => ⟨S15, .f32⟩
  | .hbm, ⟨22, _⟩ => ⟨S1, .f32⟩
  | .hbm, ⟨23, _⟩ => ⟨S16, .f32⟩
  | .hbm, ⟨24, _⟩ => ⟨S16, .i32⟩
  | .hbm, ⟨25, _⟩ => ⟨S_, .i32⟩
  | .hbm, ⟨26, _⟩ => ⟨S16, .i32⟩
  | .hbm, ⟨27, _⟩ => ⟨S16, .i1⟩
  | .hbm, ⟨28, _⟩ => ⟨S_, .i32⟩
  | .hbm, ⟨29, _⟩ => ⟨S16, .i32⟩
  | .hbm, ⟨30, _⟩ => ⟨S16, .i32⟩
  | .hbm, ⟨31, _⟩ => ⟨S16, .i32⟩
  | .hbm, ⟨32, _⟩ => ⟨S16x1, .i32⟩
  | .hbm, ⟨33, _⟩ => ⟨S1, .i32⟩
  | .hbm, ⟨34, _⟩ => ⟨S_, .i32⟩
  | .hbm, ⟨35, _⟩ => ⟨S16x1, .i32⟩
  | .hbm, ⟨36, _⟩ => ⟨S16x1, .i1⟩
  | .hbm, ⟨37, _⟩ => ⟨S1x1, .i32⟩
  | .hbm, ⟨38, _⟩ => ⟨S16x1, .i32⟩
  | .hbm, ⟨39, _⟩ => ⟨S16x1, .i1⟩
  | .hbm, ⟨40, _⟩ => ⟨S16x1, .i1⟩
  | .hbm, ⟨41, _⟩ => ⟨S_, .i1⟩
  | .hbm, ⟨42, _⟩ => ⟨S16, .i1⟩
  | .hbm, ⟨43, _⟩ => ⟨S3x16x256x256, .f32⟩
  | .hbm, ⟨44, _⟩ => ⟨S3x16x256x256, .i1⟩
  | .hbm, ⟨45, _⟩ => ⟨S_, .f32⟩
  | .hbm, ⟨46, _⟩ => ⟨S3x16x256x256, .f32⟩
  | .hbm, ⟨47, _⟩ => ⟨S3x16x256x256, .f32⟩
  | _, _ => ⟨S3x64x256x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_c : Ref sig .tc := ⟨.hbm, 1, rfl⟩
abbrev main_c_0 : Ref sig .tc := ⟨.hbm, 2, rfl⟩
abbrev main_call0_v0 : Ref sig .tc := ⟨.hbm, 3, rfl⟩
abbrev main_call0_v1 : Ref sig .tc := ⟨.hbm, 4, rfl⟩
abbrev main_call0_v2 : Ref sig .tc := ⟨.hbm, 5, rfl⟩
abbrev main_call0_cst : Ref sig .tc := ⟨.hbm, 6, rfl⟩
abbrev main_call0_v3 : Ref sig .tc := ⟨.hbm, 7, rfl⟩
abbrev main_call0_v4 : Ref sig .tc := ⟨.hbm, 8, rfl⟩
abbrev main_call0_cst_0 : Ref sig .tc := ⟨.hbm, 9, rfl⟩
abbrev main_call0_v5 : Ref sig .tc := ⟨.hbm, 10, rfl⟩
abbrev main_call0_v6 : Ref sig .tc := ⟨.hbm, 11, rfl⟩
abbrev main_call0_v7 : Ref sig .tc := ⟨.hbm, 12, rfl⟩
abbrev main_call0_cst_1 : Ref sig .tc := ⟨.hbm, 13, rfl⟩
abbrev main_call0_v8 : Ref sig .tc := ⟨.hbm, 14, rfl⟩
abbrev main_call0_v9 : Ref sig .tc := ⟨.hbm, 15, rfl⟩
abbrev main_call0_v10 : Ref sig .tc := ⟨.hbm, 16, rfl⟩
abbrev main_call0_v11 : Ref sig .tc := ⟨.hbm, 17, rfl⟩
abbrev main_call0_v12 : Ref sig .tc := ⟨.hbm, 18, rfl⟩
abbrev main_call0_v13 : Ref sig .tc := ⟨.hbm, 19, rfl⟩
abbrev main_call0_v14 : Ref sig .tc := ⟨.hbm, 20, rfl⟩
abbrev main_call0_v15 : Ref sig .tc := ⟨.hbm, 21, rfl⟩
abbrev main_call0_v16 : Ref sig .tc := ⟨.hbm, 22, rfl⟩
abbrev main_v0 : Ref sig .tc := ⟨.hbm, 23, rfl⟩
abbrev main_v1 : Ref sig .tc := ⟨.hbm, 24, rfl⟩
abbrev main_call1_c : Ref sig .tc := ⟨.hbm, 25, rfl⟩
abbrev main_call1_v0 : Ref sig .tc := ⟨.hbm, 26, rfl⟩
abbrev main_call1_v1 : Ref sig .tc := ⟨.hbm, 27, rfl⟩
abbrev main_call1_c_0 : Ref sig .tc := ⟨.hbm, 28, rfl⟩
abbrev main_call1_v2 : Ref sig .tc := ⟨.hbm, 29, rfl⟩
abbrev main_call1_v3 : Ref sig .tc := ⟨.hbm, 30, rfl⟩
abbrev main_call1_v4 : Ref sig .tc := ⟨.hbm, 31, rfl⟩
abbrev main_call1_v5 : Ref sig .tc := ⟨.hbm, 32, rfl⟩
abbrev main_call1_c_1 : Ref sig .tc := ⟨.hbm, 33, rfl⟩
abbrev main_call1_c_2 : Ref sig .tc := ⟨.hbm, 34, rfl⟩
abbrev main_call1_v6 : Ref sig .tc := ⟨.hbm, 35, rfl⟩
abbrev main_call1_v7 : Ref sig .tc := ⟨.hbm, 36, rfl⟩
abbrev main_call1_v8 : Ref sig .tc := ⟨.hbm, 37, rfl⟩
abbrev main_call1_v9 : Ref sig .tc := ⟨.hbm, 38, rfl⟩
abbrev main_call1_v10 : Ref sig .tc := ⟨.hbm, 39, rfl⟩
abbrev main_call1_v11 : Ref sig .tc := ⟨.hbm, 40, rfl⟩
abbrev main_call1_c_3 : Ref sig .tc := ⟨.hbm, 41, rfl⟩
abbrev main_call1_v12 : Ref sig .tc := ⟨.hbm, 42, rfl⟩
abbrev main_call1_v13 : Ref sig .tc := ⟨.hbm, 43, rfl⟩
abbrev main_call1_v14 : Ref sig .tc := ⟨.hbm, 44, rfl⟩
abbrev main_call1_cst : Ref sig .tc := ⟨.hbm, 45, rfl⟩
abbrev main_call1_v15 : Ref sig .tc := ⟨.hbm, 46, rfl⟩
abbrev main_v2 : Ref sig .tc := ⟨.hbm, 47, rfl⟩

abbrev nD : Nat := 1
abbrev τ : Topo := Topo.v7x

variable {F : FTy → Type} [FloatOps F]
-- ==== VerbatimIdeal.lean ====
abbrev S3x64x256x256 : Shape := ⟨4, ![3, 64, 256, 256]⟩
abbrev S_ : Shape := ⟨0, ![]⟩
abbrev S15 : Shape := ⟨1, ![15]⟩
abbrev S1 : Shape := ⟨1, ![1]⟩
abbrev S16 : Shape := ⟨1, ![16]⟩
abbrev S3x16x256x256 : Shape := ⟨4, ![3, 16, 256, 256]⟩
abbrev S1x4x256x256 : Shape := ⟨4, ![1, 4, 256, 256]⟩
abbrev S1x1x256x256 : Shape := ⟨4, ![1, 1, 256, 256]⟩
abbrev S3072x4096 : Shape := ⟨2, ![3072, 4096]⟩
abbrev S768x4096 : Shape := ⟨2, ![768, 4096]⟩
abbrev S24x4096 : Shape := ⟨2, ![24, 4096]⟩
abbrev S1x1 : Shape := ⟨2, ![1, 1]⟩
abbrev S4 : Shape := ⟨1, ![4]⟩

abbrev nBuf : Table → Nat
  | .hbm => 48
  | .local .tc .vmem => 6
  | .local .tc .smem => 1
  | .local .scVector .vmem => 1
  | _ => 0

abbrev bufTy : (tb : Table) → Fin (nBuf tb) → BufTy
  | .hbm, ⟨0, _⟩ => ⟨S3x64x256x256, .f32⟩
  | .hbm, ⟨1, _⟩ => ⟨S_, .i32⟩
  | .hbm, ⟨2, _⟩ => ⟨S_, .i32⟩
  | .hbm, ⟨3, _⟩ => ⟨S_, .f32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S15, .f32⟩
  | .hbm, ⟨9, _⟩ => ⟨S_, .f32⟩
  | .hbm, ⟨10, _⟩ => ⟨S15, .f32⟩
  | .hbm, ⟨11, _⟩ => ⟨S15, .f32⟩
  | .hbm, ⟨12, _⟩ => ⟨S1, .f32⟩
  | .hbm, ⟨13, _⟩ => ⟨S_, .f32⟩
  | .hbm, ⟨14, _⟩ => ⟨S15, .f32⟩
  | .hbm, ⟨15, _⟩ => ⟨S15, .f32⟩
  | .hbm, ⟨16, _⟩ => ⟨S15, .f32⟩
  | .hbm, ⟨17, _⟩ => ⟨S15, .f32⟩
  | .hbm, ⟨18, _⟩ => ⟨S1, .f32⟩
  | .hbm, ⟨19, _⟩ => ⟨S15, .f32⟩
  | .hbm, ⟨20, _⟩ => ⟨S15, .f32⟩
  | .hbm, ⟨21, _⟩ => ⟨S15, .f32⟩
  | .hbm, ⟨22, _⟩ => ⟨S1, .f32⟩
  | .hbm, ⟨23, _⟩ => ⟨S16, .f32⟩
  | .hbm, ⟨24, _⟩ => ⟨S16, .i32⟩
  | .hbm, ⟨25, _⟩ => ⟨S16, .i32⟩
  | .hbm, ⟨26, _⟩ => ⟨S_, .i32⟩
  | .hbm, ⟨27, _⟩ => ⟨S16, .i32⟩
  | .hbm, ⟨28, _⟩ => ⟨S16, .i32⟩
  | .hbm, ⟨29, _⟩ => ⟨S3x16x256x256, .f32⟩
  | .hbm, ⟨30, _⟩ => ⟨S3x64x256x256, .f32⟩
  | .hbm, ⟨31, _⟩ => ⟨S3072x4096, .f32⟩
  | .hbm, ⟨32, _⟩ => ⟨S768x4096, .f32⟩
  | .hbm, ⟨33, _⟩ => ⟨S768x4096, .f32⟩
  | .hbm, ⟨34, _⟩ => ⟨S1x1, .f32⟩
  | .hbm, ⟨35, _⟩ => ⟨S_, .f32⟩
  | .hbm, ⟨36, _⟩ => ⟨S_, .f32⟩
  | .hbm, ⟨37, _⟩ => ⟨S_, .f32⟩
  | .hbm, ⟨38, _⟩ => ⟨S_, .i32⟩
  | .hbm, ⟨39, _⟩ => ⟨S1, .i32⟩
  | .hbm, ⟨40, _⟩ => ⟨S_, .i32⟩
  | .hbm, ⟨41, _⟩ => ⟨S1, .i32⟩
  | .hbm, ⟨42, _⟩ => ⟨S_, .i32⟩
  | .hbm, ⟨43, _⟩ => ⟨S1, .i32⟩
  | .hbm, ⟨44, _⟩ => ⟨S_, .i32⟩
  | .hbm, ⟨45, _⟩ => ⟨S1, .i32⟩
  | .hbm, ⟨46, _⟩ => ⟨S4, .i32⟩
  | .hbm, ⟨47, _⟩ => ⟨S3x16x256x256, .f32⟩
  | .local .tc .vmem, ⟨0, _⟩ => ⟨S1x4x256x256, .f32⟩
  | .local .tc .vmem, ⟨1, _⟩ => ⟨S1x4x256x256, .f32⟩
  | .local .tc .vmem, ⟨2, _⟩ => ⟨S1x1x256x256, .f32⟩
  | .local .tc .vmem, ⟨3, _⟩ => ⟨S1x1x256x256, .f32⟩
  | .local .tc .vmem, ⟨4, _⟩ => ⟨S1x4x256x256, .f32⟩
  | .local .tc .vmem, ⟨5, _⟩ => ⟨S1x4x256x256, .f32⟩
  | .local .tc .smem, ⟨0, _⟩ => ⟨S16, .i32⟩
  | .local .scVector .vmem, ⟨0, _⟩ => ⟨S24x4096, .f32⟩
  | _, _ => ⟨S3x64x256x256, .f32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => false
  | ⟨7, _⟩ => false
  | _ => false

abbrev sig : RefSig :=
  ofTables nBuf rfl bufTy 4 8 bufScoped semScoped dmaSemScoped tileCredit tileCredit_eq_zero tileCredit_pos

abbrev main_arg0 : Ref sig .tc := ⟨.hbm, 0, rfl⟩
abbrev main_c : Ref sig .tc := ⟨.hbm, 1, rfl⟩
abbrev main_c_0 : Ref sig .tc := ⟨.hbm, 2, rfl⟩
abbrev main_call0_v0 : Ref sig .tc := ⟨.hbm, 3, rfl⟩
abbrev main_call0_v1 : Ref sig .tc := ⟨.hbm, 4, rfl⟩
abbrev main_call0_v2 : Ref sig .tc := ⟨.hbm, 5, rfl⟩
abbrev main_call0_cst : Ref sig .tc := ⟨.hbm, 6, rfl⟩
abbrev main_call0_v3 : Ref sig .tc := ⟨.hbm, 7, rfl⟩
abbrev main_call0_v4 : Ref sig .tc := ⟨.hbm, 8, rfl⟩
abbrev main_call0_cst_0 : Ref sig .tc := ⟨.hbm, 9, rfl⟩
abbrev main_call0_v5 : Ref sig .tc := ⟨.hbm, 10, rfl⟩
abbrev main_call0_v6 : Ref sig .tc := ⟨.hbm, 11, rfl⟩
abbrev main_call0_v7 : Ref sig .tc := ⟨.hbm, 12, rfl⟩
abbrev main_call0_cst_1 : Ref sig .tc := ⟨.hbm, 13, rfl⟩
abbrev main_call0_v8 : Ref sig .tc := ⟨.hbm, 14, rfl⟩
abbrev main_call0_v9 : Ref sig .tc := ⟨.hbm, 15, rfl⟩
abbrev main_call0_v10 : Ref sig .tc := ⟨.hbm, 16, rfl⟩
abbrev main_call0_v11 : Ref sig .tc := ⟨.hbm, 17, rfl⟩
abbrev main_call0_v12 : Ref sig .tc := ⟨.hbm, 18, rfl⟩
abbrev main_call0_v13 : Ref sig .tc := ⟨.hbm, 19, rfl⟩
abbrev main_call0_v14 : Ref sig .tc := ⟨.hbm, 20, rfl⟩
abbrev main_call0_v15 : Ref sig .tc := ⟨.hbm, 21, rfl⟩
abbrev main_call0_v16 : Ref sig .tc := ⟨.hbm, 22, rfl⟩
abbrev main_v0 : Ref sig .tc := ⟨.hbm, 23, rfl⟩
abbrev main_v1 : Ref sig .tc := ⟨.hbm, 24, rfl⟩
abbrev main_v2 : Ref sig .tc := ⟨.hbm, 25, rfl⟩
abbrev main_c_1 : Ref sig .tc := ⟨.hbm, 26, rfl⟩
abbrev main_v3 : Ref sig .tc := ⟨.hbm, 27, rfl⟩
abbrev main_v4 : Ref sig .tc := ⟨.hbm, 28, rfl⟩
abbrev main_v6_0 : Ref sig .tc := ⟨.hbm, 29, rfl⟩
abbrev main_v6_1 : Ref sig .tc := ⟨.hbm, 30, rfl⟩
abbrev main_v7 : Ref sig .tc := ⟨.hbm, 31, rfl⟩
abbrev main_v8 : Ref sig .tc := ⟨.hbm, 32, rfl⟩
abbrev main_v9 : Ref sig .tc := ⟨.hbm, 33, rfl⟩
abbrev main_v10 : Ref sig .tc := ⟨.hbm, 34, rfl⟩
abbrev main_v11 : Ref sig .tc := ⟨.hbm, 35, rfl⟩
abbrev main_cst : Ref sig .tc := ⟨.hbm, 36, rfl⟩
abbrev main_v12 : Ref sig .tc := ⟨.hbm, 37, rfl⟩
abbrev main_c_2 : Ref sig .tc := ⟨.hbm, 38, rfl⟩
abbrev main_v13 : Ref sig .tc := ⟨.hbm, 39, rfl⟩
abbrev main_c_3 : Ref sig .tc := ⟨.hbm, 40, rfl⟩
abbrev main_v14 : Ref sig .tc := ⟨.hbm, 41, rfl⟩
abbrev main_c_4 : Ref sig .tc := ⟨.hbm, 42, rfl⟩
abbrev main_v15 : Ref sig .tc := ⟨.hbm, 43, rfl⟩
abbrev main_c_5 : Ref sig .tc := ⟨.hbm, 44, rfl⟩
abbrev main_v16 : Ref sig .tc := ⟨.hbm, 45, rfl⟩
abbrev main_v17 : Ref sig .tc := ⟨.hbm, 46, rfl⟩
abbrev main_v18 : Ref sig .tc := ⟨.hbm, 47, rfl⟩
abbrev main_v5 : Ref sig .tc := ⟨.smem, 0, rfl⟩
abbrev main_v8_scv : Ref sig .scVector := ⟨.hbm, 32, rfl⟩
abbrev main_v9_scv : Ref sig .scVector := ⟨.hbm, 33, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_scratch0 : Ref sig .scVector := ⟨.vmem, 0, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![3, 16], ![false, false]⟩

abbrev pre0 : Pipeline.Prefetch sig := ⟨1, ![main_v5.idx], fun | 0 => main_v5.names | ⟨_ + 1, h⟩ => absurd h (Nat.not_lt.2 (Nat.le_add_left _ _)), fun | 0 => rfl | ⟨_ + 1, h⟩ => absurd h (Nat.not_lt.2 (Nat.le_add_left _ _))⟩

def k0_off1 (i : grid0.Coords) : Fin 1 → Nat :=
  let arg1 : BitVec 32 := BitVec.ofNat 32 (i 1).val
  let v2 : Index := Scalar.indexCast arg1
  ![v2.toNat]
def k0_off2 (v3 : BitVec 32) : Fin 4 → Nat :=
  let c0_7 : Index := 0#32
  let v4 : Index := Scalar.indexCast v3
  let c0_8 : Index := 0#32
  let c0_9 : Index := 0#32
  ![0, v4.toNat, 0, 0]

def k0_chk1 (v3 : BitVec 32) : Prop :=
  (∀ a, (k0_off2 v3) a + S1x1x256x256.size a ≤ S1x4x256x256.size a)
theorem k0_off2_inb : ∀ (v3 : BitVec 32) (k0_hw1 : k0_chk1 v3), ∀ a, (k0_off2 v3) a + S1x1x256x256.size a ≤ S1x4x256x256.size a := fun v3 k0_hw1 => k0_hw1

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S1x4x256x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x256x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x4x256x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev grid1 : Pipeline.Grid := ⟨2, ![2, 16], ![false, false]⟩

def k1_off1 (i : grid1.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c24_i32 : BitVec 32 := 24#32
  let v2 : BitVec 32 := Scalar.muli v1 c24_i32
  let c0_i32_r0 : BitVec 32 := 0#32
  ![v2.toNat, 0]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== Rows.lean ====
abbrev S3x64x256x256 : Shape := ⟨4, ![3, 64, 256, 256]⟩
abbrev S3072x4096 : Shape := ⟨2, ![3072, 4096]⟩
abbrev S768x4096 : Shape := ⟨2, ![768, 4096]⟩
abbrev S24x4096 : Shape := ⟨2, ![24, 4096]⟩
abbrev S_ : Shape := ⟨0, ![]⟩

abbrev nBuf : Table → Nat
  | .hbm => 4
  | .local .scVector .vmem => 1
  | _ => 0

abbrev bufTy : (tb : Table) → Fin (nBuf tb) → BufTy
  | .hbm, ⟨0, _⟩ => ⟨S3x64x256x256, .f32⟩
  | .hbm, ⟨1, _⟩ => ⟨S3072x4096, .f32⟩
  | .hbm, ⟨2, _⟩ => ⟨S768x4096, .f32⟩
  | .hbm, ⟨3, _⟩ => ⟨S768x4096, .f32⟩
  | .local .scVector .vmem, ⟨0, _⟩ => ⟨S24x4096, .f32⟩
  | _, _ => ⟨S3x64x256x256, .f32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 2 → Bool
  | ⟨0, _⟩ => false
  | ⟨1, _⟩ => false
  | _ => false

abbrev sig : RefSig :=
  ofTables nBuf rfl bufTy 4 2 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v1_scv : Ref sig .scVector := ⟨.hbm, 2, rfl⟩
abbrev main_v2_scv : Ref sig .scVector := ⟨.hbm, 3, rfl⟩
abbrev cc0_scratch0 : Ref sig .scVector := ⟨.vmem, 0, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c24_i32 : BitVec 32 := 24#32
  let v2 : BitVec 32 := Scalar.muli v1 c24_i32
  let c0_i32_r0 : BitVec 32 := 0#32
  ![v2.toNat, 0]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== RowsReferenceIdeal.lean ====
abbrev S3x64x256x256 : Shape := ⟨4, ![3, 64, 256, 256]⟩
abbrev S1x48x256x256 : Shape := ⟨4, ![1, 48, 256, 256]⟩
abbrev S48x256x256 : Shape := ⟨3, ![48, 256, 256]⟩
abbrev S768x4096 : Shape := ⟨2, ![768, 4096]⟩

abbrev nBuf : Space → Nat
  | .hbm => 4
  | .vmem => 0
  | .smem => 0
  | _ => 0

abbrev bufTy : (tb : Table) → Fin (tcTables nBuf tb) → BufTy
  | .hbm, ⟨0, _⟩ => ⟨S3x64x256x256, .f32⟩
  | .hbm, ⟨1, _⟩ => ⟨S1x48x256x256, .f32⟩
  | .hbm, ⟨2, _⟩ => ⟨S48x256x256, .f32⟩
  | .hbm, ⟨3, _⟩ => ⟨S768x4096, .f32⟩
  | _, _ => ⟨S3x64x256x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩

abbrev nD : Nat := 1
abbrev τ : Topo := Topo.v7x

variable {F : FTy → Type} [FloatOps F]
-- ==== Proof.Base.lean ====
/-
  What every part of the proof of the kernel's run shares: the program as the SparseCore launch theorem sees it, the
  ghost components (the handshakes' rounds, the staging pipeline's rounds, the transfers' counters), and the names of
  the HBM buffers the two kernels work on.
-/
module

public import proofs.«01_k».proof.Defs
public import Idealize.ShloMosaic.Lib.SparseCore.Quiescent
public import Idealize.ShloMosaic.Lib.SparseCore.Ops
public import Idealize.ShloMosaic.Lib.StableHlo.Run
public import Idealize.ShloMosaic.Lib.Pipeline.Kit
public import Idealize.ShloMosaic.Lib.Pipeline.Regions
public import Idealize.ShloMosaic.Lib.Pipeline.FrameBody
public import Idealize.ShloMosaic.Lib.Ring
public import Idealize.ShloMosaic.Lib.Tactic
public import proofs.«01_k».proof.Proof.Gen.KernelIdeal
public import proofs.«01_k».proof.Proof.Gen.KernelIdeal.Skeleton
public import proofs.«01_k».proof.Proof.Gen.KernelIdeal.Launch

@[expose] public section

noncomputable section

namespace Cert.KernelIdeal.Run

open Cert.KernelIdeal Cert.KernelIdeal.Gen
open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- The labels of the staging pipeline's program: its bodies and its one entry. -/
abbrev ΛP : Labels := Pipeline.Sig Λ₀ (Fin 1) fun p => (pcfgs (F := F) p).Adm
/-- The SparseCore launch configuration. -/
abbrev K : SparseCore.Cfg τ sig (ΛP (F := F)) 1 := sc (F := F)
/-- The program's definitions below the SparseCore launches. -/
abbrev D : Defs nD τ sig (Elt F) (ΛP (F := F)) := Pipeline.defs pcfgs defs₀
/-- The kernels' own functions call nothing. -/
abbrev 𝒱₀ : Variants := Variants.none
abbrev 𝒱 : Variants := 𝒱₀.lift
abbrev v₀ : 𝒱.V := Sum.inl none

theorem scFacts : (K (F := F)).Facts where
  start_ne_taskDone := show sc_start ≠ sc_taskDone by decide
  start_unscoped := show (SemLoc.reg sc_start : SemLoc sig).isScoped .scScalar = false by decide
  taskDone_unscoped := show (SemLoc.reg sc_taskDone : SemLoc sig).isScoped .scScalar = false by decide
  go_unscoped := show (SemLoc.reg sc_go : SemLoc sig).isScoped .scVector = false by decide
  done_unscoped := show (SemLoc.reg sc_done : SemLoc sig).isScoped .tc = false by decide
  noTaskShared := show ∀ (b : DevRef τ sig) (c : Fin τ.nSC), b.owner = .sc c → sig.taskShared b.table b.idx = false by decide
  noSeq := fun _ => rfl

/-- The handshakes' rounds, the staging pipeline's rounds, the local transfers' counters. -/
abbrev UH : Type := URounds (GSem nD τ sig) ℕ
abbrev UR : Type := URounds (GSem nD τ sig) Unit
abbrev UU : Type := UH × UR × Counters

local notation "𝕄" => MT nD τ sig (HIx 1) (Elt F) ℕ UU ℕ

abbrev EH : Emb UH (MT nD τ sig (HIx 1) (Elt F) ℕ UU ℕ) := embL
/-- The pipeline's rounds sit in the middle component. -/
def EP : Emb UR (MT nD τ sig (HIx 1) (Elt F) ℕ UU ℕ) := (Emb.inl : Emb UR (UR × Counters)).trans embR
instance EP_landsIn : (EP : Emb UR 𝕄).LandsIn (upEmb : UEmb _ 𝕄) := by unfold EP; infer_instance

/-- The TensorCore's names of the HBM buffers the SparseCore kernel copies between. -/
abbrev xLoc (d : Dev nD) : Loc nD τ sig := (SparseCore.T d).loc main_v11
abbrev oLoc (d : Dev nD) : Loc nD τ sig := (SparseCore.T d).loc main_v12

end Cert.KernelIdeal.Run

end
-- ==== Proof.Body.lean ====
/-
  The staged copy's body, run once at a symbolic grid point: it copies the block of four frames to the fast output
  and the frame the table's word names to the slow output. The post says so at the block, not as a list of stores.
-/
module

public import proofs.«01_k».proof.Proof.Base
public import Idealize.ShloMosaic.Lib.VecWindow

@[expose] public section

set_option maxRecDepth 16384

noncomputable section

namespace Cert.KernelIdeal.Run

open Cert.KernelIdeal Cert.KernelIdeal.Gen
open Idealize.ShloMosaic Idealize.ShloMosaic.TcCoe
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

/-- The prefetched table of frame offsets, as the body addresses it. -/
abbrev tbM : Memref sig .tc .smem S16 .i32 := Memref.whole main_v8
abbrev htbM : tbM.IsWhole := Memref.isWhole_whole _
abbrev TbBuf (c : Dev nD) {S : Shape} {e : EltTy} (M : Memref sig .tc .smem S e) : Type := Buf (Elt F) (M.view.loc (c.tc : Thread nD τ))
abbrev tbPt (c : Dev nD) {S : Shape} {e : EltTy} (M : Memref sig .tc .smem S e) (f : TbBuf (F := F) c M) : sProp 𝕄 :=
  M.view.loc (c.tc : Thread nD τ) ↦{fullShare} f

/-- The table's word at a grid point. -/
abbrev wordAt (i : grid0.Coords) (xt : S16.Idx → Elt F .i32) : Elt F .i32 :=
  tbM.view.readAt (Elt F) (Rect.unit (s := S16) (k0_off1 i) S1.size (k0_off1_inb i)).toLoadRect xt (Shape.Idx.first (numel1_S1.symm ▸ Nat.one_pos))

/-- The frame a word names inside a block of four. -/
def pick (x : Vec F S1x4x256x256 .f32) (w : Elt F .i32) (h : k0_chk1 w) : Vec F S1x1x256x256 .f32 :=
  fun j => x ((Rect.unit (s := S1x4x256x256) (k0_off2 w) S1x1x256x256.size (k0_off2_inb w h)).emb j)

set_option maxHeartbeats 1000000 in
/-- The body's run, with the stores it makes in each output found by running it. -/
noncomputable def bodyRun (c : Dev nD) (i : grid0.Coords) (arg3 : Memref sig .tc .vmem S1x4x256x256 .f32) (harg3 : arg3.IsWhole)
    (arg4 : Memref sig .tc .vmem S1x1x256x256 .f32) (harg4 : arg4.IsWhole) (arg5 : Memref sig .tc .vmem S1x4x256x256 .f32) (harg5 : arg5.IsWhole)
    (x0 : Vec F S1x4x256x256 .f32) (xt0 : TbBuf (F := F) c tbM) (k0_hw1 : k0_chk1 (wordAt (F := F) i xt0)) :
    Σ' (L1 : List (View.Piece (Elt F) S1x1x256x256 .f32)), { L2 : List (View.Piece (Elt F) S1x4x256x256 .f32) //
      ∀ (E : Set ℕ) (Q : PUnit → sProp 𝕄),
        iprop(owns (c.tc : Thread nD τ) arg3 fullShare x0 ∗ (∃ d, owns (c.tc : Thread nD τ) arg4 fullShare d)
            ∗ (∃ d, owns (c.tc : Thread nD τ) arg5 fullShare d) ∗ tbPt c tbM xt0
            ∗ (iprop(owns (c.tc : Thread nD τ) arg3 fullShare x0
                ∗ (∃ f, arg4.view.loc (c.tc : Thread nD τ) ↦[arg4.view.set]{fullShare} arg4.view.writes (Elt F) f L1)
                ∗ (∃ f, arg5.view.loc (c.tc : Thread nD τ) ↦[arg5.view.set]{fullShare} arg5.view.writes (Elt F) f L2) ∗ tbPt c tbM xt0) -∗ Q ⟨⟩))
          ⊢ wp frame (wpE (defs₀ (F := F)) 𝒱₀ c none) E (cc0__pack_body i tbM htbM arg3 harg3 arg4 harg4 arg5 harg5) Q } := by
  refine ⟨?_, ?_, fun E Q => ?run⟩
  case run =>
    simp only [cc0__pack_body_eq_skeleton]; unfold cc0__pack_body_skel
    unfold owns
    iintro ⟨⟨%f0, %hf0, H0⟩, ⟨%d1, %f1, -, H1⟩, ⟨%d2, %f2, -, H2⟩, HT0, Hk⟩
    obtain rfl := harg3.eq_unread hf0
    sl_exec (disch := first | sl_exact k0_hw1)
    sl_step
    iapply Hk
    isplitl [H0]
    · iexists _; isplitr; · ipureintro; exact harg3.read_unread _
      iexact H0
    isplitl [H1]; · iexists _; iexact H1
    isplitl [H2]; · iexists _; iexact H2
    iexact HT0

variable (c : Dev nD) (i : grid0.Coords) (arg3 : Memref sig .tc .vmem S1x4x256x256 .f32) (harg3 : arg3.IsWhole)
    (arg4 : Memref sig .tc .vmem S1x1x256x256 .f32) (harg4 : arg4.IsWhole) (arg5 : Memref sig .tc .vmem S1x4x256x256 .f32) (harg5 : arg5.IsWhole)
    (x0 : Vec F S1x4x256x256 .f32) (xt0 : TbBuf (F := F) c tbM) (k0_hw1 : k0_chk1 (wordAt (F := F) i xt0))

theorem slow_read (f : BufTy.Contents (Elt F) arg4.view.ty) :
    arg4.view.read (Elt F) (arg4.view.writes (Elt F) f (bodyRun c i arg3 harg3 arg4 harg4 arg5 harg5 x0 xt0 k0_hw1).1) = pick x0 (wordAt (F := F) i xt0) k0_hw1 := by
  dsimp only [bodyRun]
  refine (View.read_writes_full _ _ _ _ _).trans ?_
  funext j
  exact congrFun (harg3.read_unread x0) ((Rect.unit (s := S1x4x256x256) (k0_off2 (wordAt (F := F) i xt0)) S1x1x256x256.size (k0_off2_inb _ k0_hw1)).emb j)

theorem fast_read (f : BufTy.Contents (Elt F) arg5.view.ty) :
    arg5.view.read (Elt F) (arg5.view.writes (Elt F) f (bodyRun c i arg3 harg3 arg4 harg4 arg5 harg5 x0 xt0 k0_hw1).2.1) = x0 := by
  dsimp only [bodyRun]
  refine (View.read_writes_full _ _ _ _ _).trans ?_
  exact (View.readAt_full _ _ _).trans (harg3.read_unread x0)

theorem body_run (E : Set ℕ) (Q : PUnit → sProp 𝕄) :
    iprop(owns (c.tc : Thread nD τ) arg3 fullShare x0 ∗ (∃ d, owns (c.tc : Thread nD τ) arg4 fullShare d)
        ∗ (∃ d, owns (c.tc : Thread nD τ) arg5 fullShare d) ∗ tbPt c tbM xt0
        ∗ (iprop(owns (c.tc : Thread nD τ) arg3 fullShare x0 ∗ owns (c.tc : Thread nD τ) arg4 fullShare (pick x0 (wordAt (F := F) i xt0) k0_hw1)
            ∗ owns (c.tc : Thread nD τ) arg5 fullShare x0 ∗ tbPt c tbM xt0) -∗ Q ⟨⟩))
      ⊢ wp frame (wpE (defs₀ (F := F)) 𝒱₀ c none) E (cc0__pack_body i tbM htbM arg3 harg3 arg4 harg4 arg5 harg5) Q := by
  iintro ⟨H0, H1, H2, HT, Hk⟩
  iapply ((bodyRun c i arg3 harg3 arg4 harg4 arg5 harg5 x0 xt0 k0_hw1).2.2 E Q)
  isplitl [H0]; · iexact H0
  isplitl [H1]; · iexact H1
  isplitl [H2]; · iexact H2
  isplitl [HT]; · iexact HT
  iintro ⟨H0, ⟨%f1, H1⟩, ⟨%f2, H2⟩, HT⟩
  iapply Hk
  isplitl [H0]; · iexact H0
  isplitl [H1]
  · unfold owns
    iexists (arg4.view.writes (Elt F) f1 (bodyRun c i arg3 harg3 arg4 harg4 arg5 harg5 x0 xt0 k0_hw1).1)
    isplitr; · ipureintro; exact slow_read c i arg3 harg3 arg4 harg4 arg5 harg5 x0 xt0 k0_hw1 f1
    iexact H1
  isplitl [H2]
  · unfold owns
    iexists (arg5.view.writes (Elt F) f2 (bodyRun c i arg3 harg3 arg4 harg4 arg5 harg5 x0 xt0 k0_hw1).2.1)
    isplitr; · ipureintro; exact fast_read c i arg3 harg3 arg4 harg4 arg5 harg5 x0 xt0 k0_hw1 f2
    iexact H2
  iexact HT

end Cert.KernelIdeal.Run

end
-- ==== Proof.Region.lean ====
/-
  The staged copy as a region of @main: its proof data over the memory it is entered with, and the rule that runs it.
  The slow output ends at the frames the table's words name, the fast output at the frames themselves.
-/
module

public import proofs.«01_k».proof.Proof.Body
public import Idealize.ShloMosaic.Lib.Pipeline.Value
public import Idealize.ShloMosaic.Lib.Pipeline.ValueKit

@[expose] public section

set_option maxRecDepth 16384

noncomputable section

namespace Cert.KernelIdeal.Run

open Cert.KernelIdeal Cert.KernelIdeal.Gen
open Idealize.ShloMosaic Idealize.ShloMosaic.TcCoe
open Idealize.ShloMosaic.SparseCore.Cfg (HIx)
open Idealize.ShloMosaic.Pipeline (Dat Cfg Window BodyObligation)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

/-- What the region is entered with: the frames, the two outputs' arrays, and the table. -/
structure Entry (F : FTy → Type) where
  x : S3x64x256x256.Idx → Elt F .f32
  o1 : S3x16x256x256.Idx → Elt F .f32
  o2 : S3x64x256x256.Idx → Elt F .f32
  tb : S16.Idx → Elt F .i32
  ok : ∀ i : grid0.Coords, k0_chk1 (wordAt (F := F) i tb)

variable (e : Entry F)

abbrev tbl : pre0.Contents (Elt F) := fun | 0 => e.tb | ⟨_ + 1, h⟩ => absurd h (Nat.not_lt.2 (Nat.le_add_left _ _))
abbrev adm : Dev nD → (p : Fin 1) → (pcfgs (F := F) p).Adm := fun _ _ => ⟨tbl e, trivial⟩
abbrev cfgM : Pipeline.Cfg sig Λ₀ := cfg0 (F := F) ⟨tbl e, trivial⟩

/-- The arrays at entry. -/
def arrs (c : Dev nD) : (w : Fin (cfgM e).W) → Buf (Elt F) (((cfgM e).win w).arr.view.loc (c.tc : Thread nD τ))
  | 0 => e.x
  | 1 => e.o1
  | 2 => e.o2
  | ⟨_ + 3, h⟩ => absurd h (Nat.not_lt.2 (Nat.le_add_left _ _))

/-- The block of four frames a point works on. -/
def iblk (t : Fin grid0.N) : Vec F S1x4x256x256 .f32 :=
  (((cfgM e).win 0).blk t).view.read (Elt F) e.x

def afterW (c : Dev nD) : (w : Fin (cfgM e).W) → (t : Fin (cfgM e).N) → ((cfgM e).win w).block.Idx → Elt F ((cfgM e).win w).elt
  | 0 => fun t => iblk e t
  | 1 => fun t => pick (iblk e t) (wordAt (F := F) (grid0.coords t) e.tb) (e.ok _)
  | 2 => fun t => iblk e t
  | ⟨_ + 3, h⟩ => absurd h (Nat.not_lt.2 (Nat.le_add_left _ _))

/-- The region's proof data. What the core owes is what it owes before the SparseCore launch, and its recorded
    waits stay those no handshake counts. -/
def dats : (p : Fin 1) → (c : Dev nD) → Dat τ (Elt F) (HIx 1) ℕ UU ℕ (Pipeline.pinD pcfgs (adm e) c p) c := fun _ c => {
  A := arrs e c
  after := afterW e c
  Φ := fun _ => tbPt c tbM e.tb
  q := fun _ => fullShare
  owed := fun _ => (K (F := F)).Otc c 0
  recorded := fun _ => {p | p.2 = none} }

theorem dats_after0 (c : Dev nD) (t : Fin (cfgM e).N) : (dats e 0 c).after 0 t = iblk e t := rfl
theorem dats_after1 (c : Dev nD) (t : Fin (cfgM e).N) :
    (dats e 0 c).after 1 t = pick (iblk e t) (wordAt (F := F) (grid0.coords t) e.tb) (e.ok _) := rfl
theorem dats_after2 (c : Dev nD) (t : Fin (cfgM e).N) : (dats e 0 c).after 2 t = iblk e t := rfl

theorem before0 (c : Dev nD) (t : Fin (cfgM e).N) (d) : (dats e 0 c).before 0 t d = iblk e t :=
  ((dats e 0 c).before_in_eq_fetched 0 rfl (fun _ => rfl) (fun _ _ _ => rfl) (fun _ => rfl) t d).trans rfl

abbrev ms0 (t : Fin (cfgM e).N) : Memref sig .tc .vmem S1x4x256x256 .f32 := spec0_0.stage ((cfgM e).slots t 0)
abbrev ms1 (t : Fin (cfgM e).N) : Memref sig .tc .vmem S1x1x256x256 .f32 := spec0_1.stage ((cfgM e).slots t 1)
abbrev ms2 (t : Fin (cfgM e).N) : Memref sig .tc .vmem S1x4x256x256 .f32 := spec0_2.stage ((cfgM e).slots t 2)

def bodyPre (c : Dev nD) (t : Fin (cfgM e).N) : sProp 𝕄 :=
  iprop((dats e 0 c).Φ t.castSucc ∗ (dats e 0 c).owesAt none t.castSucc
    ∗ (∃ d, owns (c.tc : Thread nD τ) (ms0 e t) fullShare ((dats e 0 c).before 0 t d))
    ∗ (∃ d, owns (c.tc : Thread nD τ) (ms1 e t) fullShare ((dats e 0 c).before 1 t d))
    ∗ (∃ d, owns (c.tc : Thread nD τ) (ms2 e t) fullShare ((dats e 0 c).before 2 t d)))
def bodyPost (c : Dev nD) (t : Fin (cfgM e).N) : sProp 𝕄 :=
  iprop((dats e 0 c).Φ t.succ ∗ (dats e 0 c).owesAt none t.succ
    ∗ owns (c.tc : Thread nD τ) (ms0 e t) fullShare ((dats e 0 c).after 0 t)
    ∗ owns (c.tc : Thread nD τ) (ms1 e t) fullShare ((dats e 0 c).after 1 t)
    ∗ owns (c.tc : Thread nD τ) (ms2 e t) fullShare ((dats e 0 c).after 2 t))

theorem sound_body (c : Dev nD) (t : Fin (cfgM e).N) :
    bodyPre e c t ⊢ wp frame (wpE (defs₀ (F := F)) 𝒱₀ c none) Set.univ
      (cc0__pack_body (grid0.coords t) tbM htbM (ms0 e t) (hstage0_0 (((cfgM e).slots t 0).cast nbuf0_0))
        (ms1 e t) (hstage0_1 (((cfgM e).slots t 1).cast nbuf0_1)) (ms2 e t) (hstage0_2 (((cfgM e).slots t 2).cast nbuf0_2)))
      (fun _ => bodyPost e c t) := by
  unfold bodyPre bodyPost
  simp only [before0]
  rw [show (dats e 0 c).Φ t.succ = tbPt c tbM e.tb from rfl, show (dats e 0 c).Φ t.castSucc = tbPt c tbM e.tb from rfl,
    show (dats e 0 c).owesAt none t.succ = (dats e 0 c).owesAt none t.castSucc from rfl,
    dats_after0, dats_after1, dats_after2]
  iintro ⟨HT, Ho, ⟨%d0, H0⟩, ⟨%d1, H1⟩, ⟨%d2, H2⟩⟩
  iapply (body_run c (grid0.coords t) (ms0 e t) (hstage0_0 (((cfgM e).slots t 0).cast nbuf0_0))
        (ms1 e t) (hstage0_1 (((cfgM e).slots t 1).cast nbuf0_1)) (ms2 e t) (hstage0_2 (((cfgM e).slots t 2).cast nbuf0_2))
        (iblk e t) e.tb (e.ok (grid0.coords t)) Set.univ _)
  isplitl [H0]; · iexact H0
  isplitl [H1]; · iexists _; iexact H1
  isplitl [H2]; · iexists _; iexact H2
  isplitl [HT]; · iexact HT
  iintro ⟨H0, H1, H2, HT⟩
  isplitl [HT]; · iexact HT
  isplitl [Ho]; · iexact Ho
  isplitl [H0]; · iexact H0
  isplitl [H1]; · iexact H1
  iexact H2

theorem body_obligation (c : Dev nD) : BodyObligation (dats e 0 c) (defs₀ (F := F)) 𝒱₀ none Set.univ := fun t => by
  rw [bigSep_W0, bigSep_W0]
  exact triple_restated (sound_body e c t) rfl .rfl fun _ => .rfl

/-! ## What the outputs end holding -/

/-- The frame of its group of four that a slow output's frame is. -/
def slowOf : S3x16x256x256.Idx → Elt F .f32 := fun j =>
  e.x (fun a => match a with
    | 0 => ⟨(j 0).val, (j 0).isLt⟩
    | 1 => ⟨4 * (j 1).val + (e.tb (ix1 (j 1))).toNat % 4, by have h1 : (j 1).val < 16 := (j 1).isLt; show _ < 64; omega⟩
    | 2 => ⟨(j 2).val, (j 2).isLt⟩
    | 3 => ⟨(j 3).val, (j 3).isLt⟩)

/-- The outputs' blocks cover their arrays, whatever the scalars: decided at one instance. -/
theorem covers1 : ((cfgM e).win 1).Covers :=
  show ((cfg0 (F := Ideal) ⟨fun | 0 => fun _ => (0#32 : BitVec 32) | ⟨_ + 1, h⟩ => absurd h (Nat.not_lt.2 (Nat.le_add_left _ _)), trivial⟩).win 1).Covers from by decide +kernel
theorem covers2 : ((cfgM e).win 2).Covers :=
  show ((cfg0 (F := Ideal) ⟨fun | 0 => fun _ => (0#32 : BitVec 32) | ⟨_ + 1, h⟩ => absurd h (Nat.not_lt.2 (Nat.le_add_left _ _)), trivial⟩).win 2).Covers from by decide +kernel

theorem fast_final (c : Dev nD) : (dats e 0 c).arrAt 2 (cfgM e).N = e.x := by
  refine (dats e 0 c).arrAt_eq_of_covers 2 _ (covers2 e) fun t hf y => ?_
  blk_simp
  rw [dats_after2]
  rfl

theorem chk_lt (w : Elt F .i32) (h : k0_chk1 w) : (Scalar.indexCast w).toNat < 4 := by
  have := h 1
  simp [k0_off2] at this
  omega

theorem coord_lt (i : grid0.Coords) : (i 0).val < 3 ∧ (i 1).val < 16 := ⟨(i 0).isLt, (i 1).isLt⟩

theorem t0_eq (i : grid0.Coords) : cc0_transform_0 i = ![(i 0).val, (i 1).val, 0, 0] := by
  have h := coord_lt i
  unfold cc0_transform_0
  simp only [BitVec.toNat_ofNat]
  rw [Nat.mod_eq_of_lt (by omega), Nat.mod_eq_of_lt (by omega)]
theorem t1_eq (i : grid0.Coords) : cc0_transform_1 i = ![(i 0).val, (i 1).val, 0, 0] := by
  have h := coord_lt i
  unfold cc0_transform_1
  simp only [BitVec.toNat_ofNat]
  rw [Nat.mod_eq_of_lt (by omega), Nat.mod_eq_of_lt (by omega)]

theorem emb0 (t : Fin (cfgM e).N) (z : S1x4x256x256.Idx) (a : Fin 4) :
    ((((cfgM e).win 0).blk t).view.emb z a).val = (![(grid0.coords t 0).val, (grid0.coords t 1).val, 0, 0] : Fin 4 → Nat) a * S1x4x256x256.size a + 1 * (z a).val := by
  rw [← t0_eq]; rfl
theorem emb1 (t : Fin (cfgM e).N) (z : S1x1x256x256.Idx) (a : Fin 4) :
    ((((cfgM e).win 1).blk t).view.emb z a).val = (![(grid0.coords t 0).val, (grid0.coords t 1).val, 0, 0] : Fin 4 → Nat) a * S1x1x256x256.size a + 1 * (z a).val := by
  rw [← t1_eq]; rfl

theorem wordAt_eq (i : grid0.Coords) (xt : S16.Idx → Elt F .i32) : wordAt (F := F) i xt = xt (ix1 (i 1)) := by
  show xt _ = xt _
  congr 1
  funext a
  match a with
  | ⟨0, _⟩ =>
    apply Fin.ext
    show k0_off1 i 0 + 1 * 0 = (i 1).val
    rw [k0_off1_eq]
    rfl

/-- Where a point's block of the slow output sits in it. -/
abbrev at1 (t : Fin (cfgM e).N) (y : S1x1x256x256.Idx) : S3x16x256x256.Idx := (((cfgM e).win 1).blk t).view.emb y

theorem slow_block (t : Fin (cfgM e).N) (y : S1x1x256x256.Idx) :
    pick (iblk e t) (wordAt (F := F) (grid0.coords t) e.tb) (e.ok _) y = slowOf e (at1 e t y) := by
  have hw := chk_lt _ (e.ok (grid0.coords t))
  have y0 : (y 0).val < 1 := (y 0).isLt
  have y1 : (y 1).val < 1 := (y 1).isLt
  have hs : (ix1 (at1 e t y 1) : S16.Idx) = ix1 (grid0.coords t 1) := by
    funext a
    match a with
    | ⟨0, _⟩ =>
      apply Fin.ext
      refine (emb1 e t y 1).trans ?_
      show (grid0.coords t 1).val * 1 + 1 * (y 1).val = (grid0.coords t 1).val
      omega
  show e.x _ = e.x _
  congr 1
  funext a
  apply Fin.ext
  refine (emb0 e t _ a).trans ?_
  match a with
  | ⟨0, _⟩ =>
    refine Eq.trans ?_ (emb1 e t y 0).symm
    show (grid0.coords t 0).val * 1 + 1 * (0 + 1 * (y 0).val) = (grid0.coords t 0).val * 1 + 1 * (y 0).val
    omega
  | ⟨1, _⟩ =>
    show (grid0.coords t 1).val * 4 + 1 * ((Scalar.indexCast (wordAt (F := F) (grid0.coords t) e.tb)).toNat + 1 * (y 1).val)
      = 4 * (at1 e t y 1).val + (e.tb (ix1 (at1 e t y 1))).toNat % 4
    rw [hs, emb1 e t y 1]
    refine Eq.trans ?_ (congrArg (fun w : Elt F .i32 => 4 * ((grid0.coords t 1).val * 1 + 1 * (y 1).val) + (Scalar.indexCast w).toNat % 4) (wordAt_eq (F := F) (grid0.coords t) e.tb))
    show (grid0.coords t 1).val * 4 + 1 * ((Scalar.indexCast (wordAt (F := F) (grid0.coords t) e.tb)).toNat + 1 * (y 1).val)
      = 4 * ((grid0.coords t 1).val * 1 + 1 * (y 1).val) + (Scalar.indexCast (wordAt (F := F) (grid0.coords t) e.tb)).toNat % 4
    omega
  | ⟨2, _⟩ =>
    refine Eq.trans ?_ (emb1 e t y 2).symm
    show 0 * 256 + 1 * (0 + 1 * (y 2).val) = 0 * 256 + 1 * (y 2).val
    omega
  | ⟨3, _⟩ =>
    refine Eq.trans ?_ (emb1 e t y 3).symm
    show 0 * 256 + 1 * (0 + 1 * (y 3).val) = 0 * 256 + 1 * (y 3).val
    omega

theorem slow_final (c : Dev nD) : (dats e 0 c).arrAt 1 (cfgM e).N = slowOf e := by
  refine (dats e 0 c).arrAt_eq_of_covers 1 _ (covers1 e) fun t hf y => ?_
  blk_simp
  rw [dats_after1]
  exact slow_block e t y

end Cert.KernelIdeal.Run

end
-- ==== Proof.Seg.lean ====
/-
  The staged copy's region inside @main: its entry from and exit to the buffers it works on, and the rule for its call.
-/
module

public import proofs.«01_k».proof.Proof.Region

@[expose] public section

set_option maxRecDepth 16384

noncomputable section

namespace Cert.KernelIdeal.Run

open Cert.KernelIdeal Cert.KernelIdeal.Gen
open Idealize.ShloMosaic Idealize.ShloMosaic.TcCoe
open Idealize.ShloMosaic.SparseCore.Cfg (HIx)
open Idealize.ShloMosaic.Pipeline (Dat Cfg Window BodyObligation)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

variable (e : Entry F)

/-- What the core owes before the SparseCore launch, its recorded waits none a handshake counts. -/
abbrev owed0 (c : Dev nD) : sProp 𝕄 :=
  iprop(∃ W, ⌜(K (F := F)).WBelow (SparseCore.T c) W 0⌝ ∗ owes (SparseCore.T c) ((K (F := F)).Otc c 0) W)

/-- The four buffers the region works on, the outputs at given contents. -/
abbrev four (c : Dev nD) (o1 : S3x16x256x256.Idx → Elt F .f32) (o2 : S3x64x256x256.Idx → Elt F .f32) : sProp 𝕄 :=
  iprop(((SparseCore.T c : Thread nD τ).loc main_arg0 ↦{fullShare} e.x) ∗ ((SparseCore.T c : Thread nD τ).loc main_v9_0 ↦{fullShare} o1)
    ∗ ((SparseCore.T c : Thread nD τ).loc main_v9_1 ↦{fullShare} o2) ∗ ((SparseCore.T c : Thread nD τ).loc main_v8 ↦{fullShare} e.tb))

theorem set_arr (w : Fin 3) : (spec0 w).arr.view.set = Finset.univ := (arr_whole0 w).set_eq_univ

theorem arrays_eq (c : Dev nD) (G : (w : Fin (cfgM e).W) → Buf (Elt F) (((cfgM e).win w).arr.view.loc (c.tc : Thread nD τ))) :
    ((dats e 0 c).arrays G : sProp 𝕄)
      = iprop(((SparseCore.T c : Thread nD τ).loc main_arg0 ↦{fullShare} G 0) ∗ ((SparseCore.T c : Thread nD τ).loc main_v9_0 ↦{fullShare} G 1)
        ∗ ((SparseCore.T c : Thread nD τ).loc main_v9_1 ↦{fullShare} G 2)) := by
  unfold Pipeline.Dat.arrays
  rw [bigSep_W0]
  have hs : ∀ w : Fin 3, (dats e 0 c).share w = fullShare := fun w => by
    show (if _ then fullShare else fullShare) = _
    split <;> rfl
  rw [hs 0, hs 1, hs 2]
  have hv : ∀ w : Fin 3, (((Pipeline.pinD pcfgs (adm e) c 0).win w).arr.view.set) = Finset.univ := fun w => set_arr w
  rw [hv 0, hv 1, hv 2]

theorem pref_eq (c : Dev nD) :
    (Pipeline.prefHeld pre0 c (fun _ => fullShare) (tbl e) : sProp 𝕄) = tbPt c tbM e.tb := by
  unfold Pipeline.prefHeld
  rw [show (Finset.univ : Finset (Fin 1)) = {(0 : Fin 1)} from by decide, bigSep_singleton]
  rfl

theorem otc_none (c : Dev nD) (g : GSem nD τ sig) : (K (F := F)).Otc c 0 g none = 0 := by
  by_contra h
  have := (K (F := F)).lev_of_Otc_pos (d := c) (n := 0) (g := g) (ι := none) (Nat.pos_of_ne_zero h)
  rw [SparseCore.Cfg.lev_none] at this
  omega

theorem owesAt_of (c : Dev nD) (t : Fin ((cfgM e).N + 1)) : owed0 (F := F) c ⊢ (dats e 0 c).owesAt none t := by
  unfold Pipeline.Dat.owesAt Pipeline.owesWithin
  iintro ⟨%W, %hW, HO⟩
  iexists W
  isplitr
  · ipureintro
    intro p hp
    refine Or.inl ?_
    have := hW p hp
    obtain ⟨s, ix⟩ := p
    cases ix with
    | none => rfl
    | some q => exact absurd this (Nat.not_le.mpr ((K (F := F)).lev_some_pos ((SparseCore.T c : Thread nD τ), s) q))
  iexact HO

theorem of_owesAt (c : Dev nD) (t : Fin ((cfgM e).N + 1)) : (dats e 0 c).owesAt none t ⊢ owed0 (F := F) c := by
  unfold Pipeline.Dat.owesAt Pipeline.owesWithin
  iintro ⟨%W, %hW, HO⟩
  iexists W
  isplitr
  · ipureintro
    intro p hp
    have hn : p.2 = none := by
      rcases hW hp with h | ⟨w, s, h⟩
      · exact h
      · rw [h]
    rw [hn, SparseCore.Cfg.lev_none]
  iexact HO

theorem phinj : Function.Injective (Pipeline.PerCore.cellOf (nD := nD) (τ := τ) (Pipeline.pinD pcfgs (adm e))) :=
  fun x y h => Gen.cellOf_inj (fun _ => ⟨tbl e, trivial⟩) h

/-- The region. -/
def seg : Pipeline.PerCore.RegionSeg pcfgs (adm e) (dats e) none (defs₀ (F := F)) 𝒱₀ (K (F := F)).L (K (F := F)).lev 0 where
  win := winFacts0.to₀
  block_pos := block_pos0
  stage_whole := stage_whole0
  K := PEmpty
  osem := fun k => k.elim
  ho := Pipeline.OwnSemFacts.none _
  hbody := fun c => (body_obligation e c).loose
  hwaits := fun c => Pipeline.PerCore.cellsWaits_intro _ _ _ _ _ fun w s t => (K (F := F)).mayWait_none _ (otc_none c)
  pre := fun c => iprop(four e c e.o1 e.o2 ∗ owed0 (F := F) c)
  post := fun c => iprop(four e c (slowOf e) e.x ∗ owed0 (F := F) c)
  X := fun _ => BI.emp
  Y := fun c => tbPt c tbM e.tb
  Z := fun _ => BI.emp
  hentry := fun c => by
    refine BIBase.Entails.trans ?_ Idealize.SL.BI.fupd_intro
    rw [arrays_eq, pref_eq]
    iintro ⟨⟨⟨H0, H1, H2, HT⟩, HO⟩, -, -⟩
    isplitl [H0 H1 H2]
    · isplitl [H0]; · iexact H0
      isplitl [H1]; · iexact H1
      iexact H2
    isplitl [HT]; · iexact HT
    isplitl [HO]; · iapply (owesAt_of e c 0) $$ HO
    isplitl []; · iempintro
    iempintro
  hin := fun c => by
    rw [pref_eq]
    show _ ⊢ tbPt c tbM e.tb
    iintro ⟨-, HT, -⟩
    iexact HT
  hout := fun c => by
    rw [Pipeline.ownSems0_none, show Pipeline.scopedRest (pcfgs (F := F) 0).spec c = (BI.emp : sProp 𝕄) from scopedRest0_eq c]
    show tbPt c tbM e.tb ⊢ _
    iintro HT
    isplitl [HT]; · iexact HT
    isplitl []; · iempintro
    iempintro
  hexit := fun c => by
    refine BIBase.Entails.trans ?_ Idealize.SL.BI.fupd_intro
    rw [arrays_eq]
    rw [show (dats e 0 c).arrAt 0 (Pipeline.pinD pcfgs (adm e) c 0).N = e.x from (dats e 0 c).arrAt_in 0 rfl _,
      show (dats e 0 c).arrAt 1 (Pipeline.pinD pcfgs (adm e) c 0).N = slowOf e from slow_final e c,
      show (dats e 0 c).arrAt 2 (Pipeline.pinD pcfgs (adm e) c 0).N = e.x from fast_final e c]
    iintro ⟨⟨H0, H1, H2⟩, HO, HT, -⟩
    isplitl [H0 H1 H2 HT]
    · isplitl [H0]; · iexact H0
      isplitl [H1]; · iexact H1
      isplitl [H2]; · iexact H2
      iexact HT
    iapply (of_owesAt e c _) $$ HO

theorem seg_pre (c : Dev nD) : (seg e).pre c = iprop(four e c e.o1 e.o2 ∗ owed0 (F := F) c) := rfl
theorem seg_post (c : Dev nD) : (seg e).post c = iprop(four e c (slowOf e) e.x ∗ owed0 (F := F) c) := rfl

variable [∀ e, Nonempty (Elt F e)]

theorem call_eq :
    (Prog.lift (.customCall (SparseCore.inner (Pipeline.entry 0)) ()) : Prog (TpuEff nD τ sig (Elt F) (SparseCore.Sig (ΛP (F := F)) 1) .tc) PUnit)
      = SparseCore.liftProg (.op (.customCall (Pipeline.entry 0) ()) (fun u => .ret u) : Prog (TpuEff nD τ sig (Elt F) (ΛP (F := F)) .tc) PUnit) := by
  rfl

/-- The region's call, in @main above the SparseCore launches. -/
theorem wp_region (c : Dev nD) (Q : PUnit → sProp 𝕄) :
    iprop((iprop(boundary (SparseCore.T c : Thread nD τ) ∗ four e c (slowOf e) e.x ∗ owed0 (F := F) c) -∗ Q ⟨⟩)
        ∗ boundary (SparseCore.T c : Thread nD τ) ∗ (four e c e.o1 e.o2 ∗ owed0 (F := F) c) ∗ levAts (K (F := F)).L (K (F := F)).lev
        ∗ Pipeline.PerCore.cellsGhost (Pipeline.pinD pcfgs (adm e)) EP 0 c ∗ Pipeline.PerCore.toksInit (Pipeline.pinD pcfgs (adm e)) EP 0 c)
      ⊢ wp frame (wpE ((K (F := F)).defs (D (F := F))) 𝒱 (SparseCore.T c) none) Set.univ
          (Prog.lift (.customCall (SparseCore.inner (Pipeline.entry 0)) ())) Q := by
  rw [call_eq]
  refine BIBase.Entails.trans ?_ ((K (F := F)).wp_liftProg (D (F := F)) 𝒱 (SparseCore.T c) Set.univ none (.op (.customCall (Pipeline.entry 0) ()) (fun u => .ret u)) Q)
  refine BIBase.Entails.trans ?_ (Pipeline.PerCore.RegionSeg.wp pcfgs (adm e) (dats e) none (phinj e) EP (defs₀ (F := F)) 𝒱₀ _ _ (seg e) c none
    (fun u hu => nomatch hu) (fun u => .ret u) Q)
  rw [seg_pre, seg_post]
  iintro ⟨Hk, Hb, Hp, HL, Hg, Ht⟩
  isplitl [Hk]
  · iintro ⟨Hb, Hp⟩
    rw [wp_ret]
    imodintro
    iapply Hk
    isplitl [Hb]; · iexact Hb
    iexact Hp
  isplitl [Hb]; · iexact Hb
  isplitl [Hp]; · iexact Hp
  isplitl [HL]; · iexact HL
  isplitl [Hg]; · iexact Hg
  iexact Ht

end Cert.KernelIdeal.Run

end
-- ==== Proof.Host.lean ====
/-
  The host lines of @main: the three straight lines of operations around the two kernels, and the contents of the
  buffers along them.
-/
module

public import proofs.«01_k».proof.Proof.Seg

@[expose] public section

set_option maxRecDepth 16384

noncomputable section

namespace Cert.KernelIdeal.Run

open Cert.KernelIdeal Cert.KernelIdeal.Gen
open Idealize.ShloMosaic Idealize.ShloMosaic.TcCoe Idealize.ShloMosaic.StableHlo
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig (HIx 1) (Elt F) ℕ UU ℕ

/-- The line before the region: it works the table out. -/
abbrev preOps : List (HloOp τ sig (Elt F)) :=
  [ nullary main_v0 (iotaInDim S16 32 0),
    nullary main_c (constantI S_ 32 63#32),
    unary main_c main_v1 (broadcastInDim S16 ![] bcast_S_S16 : (⟨S_, .i32⟩ : BufTy).Contents (Elt F) → (⟨S16, .i32⟩ : BufTy).Contents (Elt F)),
    binary main_v0 main_v1 main_v2 (muli : (⟨S16, .i32⟩ : BufTy).Contents (Elt F) → (⟨S16, .i32⟩ : BufTy).Contents (Elt F) → (⟨S16, .i32⟩ : BufTy).Contents (Elt F)),
    nullary main_c_0 (constantI S_ 32 15#32),
    unary main_c_0 main_v3 (broadcastInDim S16 ![] bcast_S_S16 : (⟨S_, .i32⟩ : BufTy).Contents (Elt F) → (⟨S16, .i32⟩ : BufTy).Contents (Elt F)),
    binary main_v2 main_v3 main_v4 (Host.divsi : (⟨S16, .i32⟩ : BufTy).Contents (Elt F) → (⟨S16, .i32⟩ : BufTy).Contents (Elt F) → (⟨S16, .i32⟩ : BufTy).Contents (Elt F)),
    nullary main_v5 (iotaInDim S16 32 0),
    nullary main_c_1 (constantI S_ 32 4#32),
    unary main_c_1 main_v6 (broadcastInDim S16 ![] bcast_S_S16 : (⟨S_, .i32⟩ : BufTy).Contents (Elt F) → (⟨S16, .i32⟩ : BufTy).Contents (Elt F)),
    binary main_v6 main_v5 main_v7 (muli : (⟨S16, .i32⟩ : BufTy).Contents (Elt F) → (⟨S16, .i32⟩ : BufTy).Contents (Elt F) → (⟨S16, .i32⟩ : BufTy).Contents (Elt F)),
    binary main_v4 main_v7 main_v8 (subi : (⟨S16, .i32⟩ : BufTy).Contents (Elt F) → (⟨S16, .i32⟩ : BufTy).Contents (Elt F) → (⟨S16, .i32⟩ : BufTy).Contents (Elt F)) ]

/-- The line between the region and the SparseCore launch. -/
abbrev midOps : List (HloOp τ sig (Elt F)) :=
  [ reshape main_arg0 main_v10 (rfl : (.f32 : EltTy) = .f32) shapeCasts_S3x64x256x256_S3072x4096,
    unary main_v10 main_v11 ((extractStridedSlice S768x4096 ![0, 0] · slices_S3072x4096_S768x4096_0_0) : (⟨S3072x4096, .f32⟩ : BufTy).Contents (Elt F) → (⟨S768x4096, .f32⟩ : BufTy).Contents (Elt F)) ]

/-- The line after the SparseCore launch. -/
abbrev sufOps : List (HloOp τ sig (Elt F)) :=
  [ unary main_v12 main_v13 ((extractStridedSlice S1x1 ![0, 0] · slices_S768x4096_S1x1_0_0) : (⟨S768x4096, .f32⟩ : BufTy).Contents (Elt F) → (⟨S1x1, .f32⟩ : BufTy).Contents (Elt F)),
    reshape main_v13 main_v14 (rfl : (.f32 : EltTy) = .f32) shapeCasts_S1x1_S_,
    nullary main_cst (constant S_ .f32 0x00000000#32),
    binary main_v14 main_cst main_v15 (mulf : (⟨S_, .f32⟩ : BufTy).Contents (Elt F) → (⟨S_, .f32⟩ : BufTy).Contents (Elt F) → (⟨S_, .f32⟩ : BufTy).Contents (Elt F)),
    nullary main_c_2 (constantI S_ 32 0#32),
    unary main_c_2 main_v16 (broadcastInDim S1 ![] bcast_S_S1 : (⟨S_, .i32⟩ : BufTy).Contents (Elt F) → (⟨S1, .i32⟩ : BufTy).Contents (Elt F)),
    nullary main_c_3 (constantI S_ 32 0#32),
    unary main_c_3 main_v17 (broadcastInDim S1 ![] bcast_S_S1 : (⟨S_, .i32⟩ : BufTy).Contents (Elt F) → (⟨S1, .i32⟩ : BufTy).Contents (Elt F)),
    nullary main_c_4 (constantI S_ 32 0#32),
    unary main_c_4 main_v18 (broadcastInDim S1 ![] bcast_S_S1 : (⟨S_, .i32⟩ : BufTy).Contents (Elt F) → (⟨S1, .i32⟩ : BufTy).Contents (Elt F)),
    nullary main_c_5 (constantI S_ 32 0#32),
    unary main_c_5 main_v19 (broadcastInDim S1 ![] bcast_S_S1 : (⟨S_, .i32⟩ : BufTy).Contents (Elt F) → (⟨S1, .i32⟩ : BufTy).Contents (Elt F)),
    nary ![main_v16, main_v17, main_v18, main_v19] main_v20 (fun u => (concatenate S4 0 [⟨S1, (u 0 : (⟨S1, .i32⟩ : BufTy).Contents (Elt F))⟩, ⟨S1, (u 1 : (⟨S1, .i32⟩ : BufTy).Contents (Elt F))⟩, ⟨S1, (u 2 : (⟨S1, .i32⟩ : BufTy).Contents (Elt F))⟩, ⟨S1, (u 3 : (⟨S1, .i32⟩ : BufTy).Contents (Elt F))⟩] concatenates_S1_S1_S1_S1_S4_d0 : (⟨S4, .i32⟩ : BufTy).Contents (Elt F))),
    ternary main_v9_0 main_v20 main_v15 main_v21 ((fun x i u => Host.scatter scatter_S3x16x256x256_S4_S__n_0123_0123_0 FloatOps.addf x i u) : (⟨S3x16x256x256, .f32⟩ : BufTy).Contents (Elt F) → (⟨S4, .i32⟩ : BufTy).Contents (Elt F) → (⟨S_, .f32⟩ : BufTy).Contents (Elt F) → (⟨S3x16x256x256, .f32⟩ : BufTy).Contents (Elt F)) ]

theorem preOps_sub : (preOps : List (HloOp τ sig (Elt F))).Forall fun op => op.bufs ⊆ tcRefs τ sig :=
  ⟨nullary_bufs_sub .., nullary_bufs_sub .., unary_bufs_sub .., binary_bufs_sub .., nullary_bufs_sub .., unary_bufs_sub .., binary_bufs_sub .., nullary_bufs_sub .., nullary_bufs_sub .., unary_bufs_sub .., binary_bufs_sub .., binary_bufs_sub ..⟩
theorem midOps_sub : (midOps : List (HloOp τ sig (Elt F))).Forall fun op => op.bufs ⊆ tcRefs τ sig :=
  ⟨reshape_bufs_sub .., unary_bufs_sub ..⟩
theorem sufOps_sub : (sufOps : List (HloOp τ sig (Elt F))).Forall fun op => op.bufs ⊆ tcRefs τ sig :=
  ⟨unary_bufs_sub .., reshape_bufs_sub .., nullary_bufs_sub .., binary_bufs_sub .., nullary_bufs_sub .., unary_bufs_sub .., nullary_bufs_sub .., unary_bufs_sub .., nullary_bufs_sub .., unary_bufs_sub .., nullary_bufs_sub .., unary_bufs_sub .., nary_bufs_sub .., ternary_bufs_sub ..⟩

/-- @main: the line, the region's call, the line, the SparseCore launch, the line. -/
theorem main_eq (d : Dev nD) :
    (main (F := F) d) = seqK preOps (Prog.lift (.customCall (SparseCore.inner (Pipeline.entry 0)) ()) >>= fun _ =>
      seqK midOps ((sc (F := F)).run d 0 >>= fun _ => seq sufOps)) := rfl

theorem preOps_fresh : ∀ op ∈ (preOps : List (HloOp τ sig (Elt F))), op.fresh = ∅ := by
  intro _ h; (repeat (cases h with | head => rfl | tail _ h => ?_)); exact nomatch h
theorem midOps_fresh : ∀ op ∈ (midOps : List (HloOp τ sig (Elt F))), op.fresh = ∅ := by
  intro _ h; (repeat (cases h with | head => rfl | tail _ h => ?_)); exact nomatch h
theorem sufOps_fresh : ∀ op ∈ (sufOps : List (HloOp τ sig (Elt F))), op.fresh = ∅ := by
  intro _ h; (repeat (cases h with | head => rfl | tail _ h => ?_)); exact nomatch h

abbrev a0' : DevRef τ sig := Proc.devRef .tc (main_arg0 : Ref sig .tc)
abbrev t8' : DevRef τ sig := Proc.devRef .tc (main_v8 : Ref sig .tc)
abbrev s9' : DevRef τ sig := Proc.devRef .tc (main_v9_0 : Ref sig .tc)
abbrev f9' : DevRef τ sig := Proc.devRef .tc (main_v9_1 : Ref sig .tc)
abbrev x11' : DevRef τ sig := Proc.devRef .tc (main_v11 : Ref sig .tc)
abbrev o12' : DevRef τ sig := Proc.devRef .tc (main_v12 : Ref sig .tc)
abbrev r21' : DevRef τ sig := Proc.devRef .tc (main_v21 : Ref sig .tc)

/-- The table the first line leaves: position `s` of sixteen over sixty-four frames, less four times `s`. -/
def tab : S16.Idx → Elt F .i32 :=
  subi (Host.divsi (muli (iotaInDim S16 32 0) (broadcastInDim S16 ![] bcast_S_S16 (constantI S_ 32 63#32)))
      (broadcastInDim S16 ![] bcast_S_S16 (constantI S_ 32 15#32)))
    (muli (broadcastInDim S16 ![] bcast_S_S16 (constantI S_ 32 4#32)) (iotaInDim S16 32 0))

theorem pre_tab (V : Valuation τ sig (Elt F)) : after preOps V t8' = tab := by
  after_results
  rfl
theorem pre_a0 (V : Valuation τ sig (Elt F)) : after preOps V a0' = V a0' := by
  after_results
theorem pre_s9 (V : Valuation τ sig (Elt F)) : after preOps V s9' = V s9' := by
  after_results
theorem pre_f9 (V : Valuation τ sig (Elt F)) : after preOps V f9' = V f9' := by
  after_results

theorem mid_a0 (V : Valuation τ sig (Elt F)) : after midOps V a0' = V a0' := by
  after_results
theorem mid_s9 (V : Valuation τ sig (Elt F)) : after midOps V s9' = V s9' := by
  after_results
theorem mid_f9 (V : Valuation τ sig (Elt F)) : after midOps V f9' = V f9' := by
  after_results
theorem suf_a0 (V : Valuation τ sig (Elt F)) : after sufOps V a0' = V a0' := by
  after_results
theorem suf_f9 (V : Valuation τ sig (Elt F)) : after sufOps V f9' = V f9' := by
  after_results

/-- What the last line adds at the corner of the slow clip: the launch's first element times zero. -/
def probe (o : S768x4096.Idx → Elt F .f32) : S_.Idx → Elt F .f32 :=
  mulf (shapeCast S_ (extractStridedSlice S1x1 ![0, 0] o slices_S768x4096_S1x1_0_0) shapeCasts_S1x1_S_) (constant S_ .f32 0x00000000#32)
/-- Where: the corner. -/
def corner : S4.Idx → Elt F .i32 :=
  concatenate S4 0 [⟨S1, broadcastInDim S1 ![] bcast_S_S1 (constantI S_ 32 0#32)⟩, ⟨S1, broadcastInDim S1 ![] bcast_S_S1 (constantI S_ 32 0#32)⟩,
    ⟨S1, broadcastInDim S1 ![] bcast_S_S1 (constantI S_ 32 0#32)⟩, ⟨S1, broadcastInDim S1 ![] bcast_S_S1 (constantI S_ 32 0#32)⟩]
    concatenates_S1_S1_S1_S1_S4_d0
def finalSlow (s : S3x16x256x256.Idx → Elt F .f32) (o : S768x4096.Idx → Elt F .f32) : S3x16x256x256.Idx → Elt F .f32 :=
  Host.scatter scatter_S3x16x256x256_S4_S__n_0123_0123_0 FloatOps.addf s (corner (F := F)) (probe o)

theorem suf_r21 (V : Valuation τ sig (Elt F)) : after sufOps V r21' = finalSlow (V s9') (V o12') := by
  simp only [after_cons, after_nil]
  rw [ternary_result, nary4_result]
  after_results_simp
  rfl

theorem t0_chk (t : Fin 16) : ∀ a, (k0_off2 ((tab (F := Ideal)) (ix1 t))) a + S1x1x256x256.size a ≤ S1x4x256x256.size a := by
  revert t
  decide +kernel

/-- Each of the table's words is one of the four frames of a block. -/
theorem tab_ok (i : grid0.Coords) : k0_chk1 (wordAt (F := F) i (tab (F := F))) := by
  rw [wordAt_eq]
  exact t0_chk (i 1)

theorem mem_uc (r : Ref sig .tc) (h : r.isScoped = false) : Proc.devRef (τ := τ) .tc r ∈ Pipeline.ucRefs τ sig :=
  Finset.mem_filter.mpr ⟨devRef_mem_tcRefs r, fun h' => Bool.false_ne_true (h.symm.trans h')⟩

end Cert.KernelIdeal.Run

end
-- ==== Proof.Sc.lean ====
/-
  The SparseCore kernel: thirty-two vector subcores, subcore `s` of SparseCore `c` fetching rows `24·(2s + c)` to
  `24·(2s + c) + 24` of the 768×4096 source into its vector memory and writing them to the same rows of the
  destination. The body is run once, at a symbolic subcore, with the VALUE carried: the rows written are the source's.
-/
module

public import proofs.«01_k».proof.Proof.Base

@[expose] public section

noncomputable section

namespace Cert.KernelIdeal.Run

open Cert.KernelIdeal Cert.KernelIdeal.Gen
open Idealize.ShloMosaic
open Idealize.ShloMosaic.SparseCore (S V)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

/-! ## The rows of each subcore -/

theorem rows_dvd : 32 ∣ S768x4096.size 0 := ⟨24, rfl⟩
/-- Block `b` of the thirty-two blocks of 24 rows. -/
abbrev rowsOf (b : Fin 32) : Rect S768x4096 := Rect.part (s := S768x4096) (a₀ := 0) rows_dvd b
/-- Subcore `s` of SparseCore `c` has block `2s + c`. -/
def blk (c : Fin 2) (s : Fin 16) : Fin 32 := ⟨2 * s.val + c.val, by omega⟩

/-- The source, the destination and the vector memory, as the subcore addresses them. -/
abbrev xM : Memref sig .scVector .hbm S768x4096 .f32 := Memref.whole main_v11_scv
abbrev oM : Memref sig .scVector .hbm S768x4096 .f32 := Memref.whole main_v12_scv
abbrev sM : Memref sig .scVector .vmem S24x4096 .f32 := Memref.whole cc1_scratch0

abbrev rowSet (b : Fin 32) : Finset S768x4096.Idx := (rowsOf b).set

/-- Block `b` of the source at `x`, held whole. -/
abbrev xBlk (x : (d : Dev nD) → Buf (Elt F) (xLoc d)) (d : Dev nD) (b : Fin 32) : sProp 𝕄 := xLoc d ↦[rowSet b]{fullShare} x d
/-- Block `b` of the destination at `f`. -/
abbrev oBlk (d : Dev nD) (b : Fin 32) (f : Buf (Elt F) (oLoc d)) : sProp 𝕄 := oLoc d ↦[rowSet b]{fullShare} f

theorem nSub_eq : (K (F := F)).nSub 0 = 16 := rfl
theorem nCore_eq : (K (F := F)).nCore 0 = 2 := rfl

/-- What the call hands over and takes back: a subcore gets its block of the source, at `x`, and of the destination, at
    anything; it returns the destination's block AT THE SOURCE'S CONTENTS. -/
def P (x : (d : Dev nD) → Buf (Elt F) (xLoc d)) : (K (F := F)).Pay (nD := nD) (Val := Elt F) (Name := ℕ) (U := UU) where
  st := fun q d c => match q with
    | 0 => bigSep Finset.univ fun s : Fin 16 => iprop(xBlk x d (blk (Fin.cast nCore_eq c) s) ∗ ∃ f, oBlk d (blk (Fin.cast nCore_eq c) s) f)
  dn := fun q d c => match q with
    | 0 => bigSep Finset.univ fun s : Fin 16 => iprop(xBlk x d (blk (Fin.cast nCore_eq c) s) ∗ oBlk d (blk (Fin.cast nCore_eq c) s) (x d))
  go := fun q d c i => match q with
    | 0 => iprop(xBlk x d (blk (Fin.cast nCore_eq c) (Fin.cast nSub_eq i)) ∗ ∃ f, oBlk d (blk (Fin.cast nCore_eq c) (Fin.cast nSub_eq i)) f)
  td := fun q d c i => match q with
    | 0 => iprop(xBlk x d (blk (Fin.cast nCore_eq c) (Fin.cast nSub_eq i)) ∗ oBlk d (blk (Fin.cast nCore_eq c) (Fin.cast nSub_eq i)) (x d))
  x := fun _ _ => iprop(emp)

instance P_storable (x : (d : Dev nD) → Buf (Elt F) (xLoc d)) : (P (F := F) x).IsStorable where
  st q d c := match q with
    | 0 => (inferInstance : BI.Storable (upEmb : UEmb _ 𝕄)
      (bigSep Finset.univ fun s : Fin 16 => iprop(xBlk x d (blk (Fin.cast nCore_eq c) s) ∗ ∃ f, oBlk d (blk (Fin.cast nCore_eq c) s) f)))
  dn q d c := match q with
    | 0 => (inferInstance : BI.Storable (upEmb : UEmb _ 𝕄)
      (bigSep Finset.univ fun s : Fin 16 => iprop(xBlk x d (blk (Fin.cast nCore_eq c) s) ∗ oBlk d (blk (Fin.cast nCore_eq c) s) (x d))))
  go q d c i := match q with
    | 0 => (inferInstance : BI.Storable (upEmb : UEmb _ 𝕄)
      iprop(xBlk x d (blk (Fin.cast nCore_eq c) (Fin.cast nSub_eq i)) ∗ ∃ f, oBlk d (blk (Fin.cast nCore_eq c) (Fin.cast nSub_eq i)) f))
  td q d c i := match q with
    | 0 => (inferInstance : BI.Storable (upEmb : UEmb _ 𝕄)
      iprop(xBlk x d (blk (Fin.cast nCore_eq c) (Fin.cast nSub_eq i)) ∗ oBlk d (blk (Fin.cast nCore_eq c) (Fin.cast nSub_eq i)) (x d)))

/-! ## One subcore's task -/

section Tile

variable (d : Dev nD) (L : grid1.Coords)

abbrev cV : Fin τ.nSC := (L 0).castLE hcore1
abbrev jV : Fin τ.nSub := (L 1).castLE hsub1
abbrev bL : Fin 32 := blk (L 0) (L 1)
/-- The thread. -/
abbrev thrV : Thread nD τ := V d (cV L) (jV L)

/-- The rows the body slices out. -/
abbrev rowsK : Rect S768x4096 := Rect.unit (s := S768x4096) (k1_off1 L) S24x4096.size (k1_off1_inb L)
abbrev xRows : Memref sig .scVector .hbm S24x4096 .f32 := (xM).slice (rowsK L) (fun _ => rfl)
abbrev oRows : Memref sig .scVector .hbm S24x4096 .f32 := (oM).slice (rowsK L) (fun _ => rfl)

theorem rowsK_eq : rowsK L = rowsOf (bL L) := by
  unfold rowsK rowsOf Rect.part Rect.block
  congr 1 <;> funext a
  · rw [k1_off1_eq]
    match a with
    | 0 => simp only [Shape.partIx, Shape.partSize, bL, blk]; simp; ring
    | 1 => simp [Shape.partIx, Shape.partSize]
  · match a with
    | 0 => simp [Shape.partSize]
    | 1 => simp [Shape.partSize]

theorem set_xRows : (xRows L).view.set = rowSet (bL L) := (View.set_slice_whole _ _).trans (by rw [rowsK_eq])
theorem set_oRows : (oRows L).view.set = rowSet (bL L) := (View.set_slice_whole _ _).trans (by rw [rowsK_eq])

theorem pts_xRows (f : Buf (Elt F) (xLoc d)) :
    ((xRows L).view.loc (thrV d L) ↦[(xRows L).view.set]{fullShare} f : sProp 𝕄) = xLoc d ↦[rowSet (bL L)]{fullShare} f := by
  rw [set_xRows]
theorem pts_oRows (f : Buf (Elt F) (oLoc d)) :
    ((oRows L).view.loc (thrV d L) ↦[(oRows L).view.set]{fullShare} f : sProp 𝕄) = oLoc d ↦[rowSet (bL L)]{fullShare} f := by
  rw [set_oRows]
theorem pts_sM (f : Buf (Elt F) ((thrV d L).loc cc1_scratch0)) :
    ((sM).view.loc (thrV d L) ↦{fullShare} f : sProp 𝕄) = (thrV d L).loc cc1_scratch0 ↦{fullShare} f := rfl

/-- The two transfers' completion cells. -/
abbrev inCell (d : Dev nD) (c : Fin τ.nSC) (i : Fin τ.nSub) : GSem nD τ sig := (V d c i, .dma cc1_scoped0.sem)
abbrev outCell (d : Dev nD) (c : Fin τ.nSC) (i : Fin τ.nSub) : GSem nD τ sig := (V d c i, .dma cc1_scoped1.sem)

theorem ownSems0_cells :
    (ownSems0 (thrV d L) : sProp 𝕄)
      = iprop(semVal (inCell d (cV L) (jV L)) 0 ∗ semVal (outCell d (cV L) (jV L)) 0
          ∗ bigSep (((ownCells (thrV d L)).erase (inCell d (cV L) (jV L))).erase (outCell d (cV L) (jV L))) fun g => semVal g 0) := by
  unfold SparseCore.Cfg.ownSems0
  rw [SparseCore.bigSep_erase' ((mem_ownCells (g := inCell d (cV L) (jV L))).mpr ⟨rfl, by
      show (SemLoc.dma cc1_scoped0.sem : SemLoc sig).isScoped .scVector = true; decide⟩),
    SparseCore.bigSep_erase' (Finset.mem_erase.mpr ⟨by simp [inCell, outCell]; decide, (mem_ownCells (g := outCell d (cV L) (jV L))).mpr ⟨rfl, by
      show (SemLoc.dma cc1_scoped1.sem : SemLoc sig).isScoped .scVector = true; decide⟩⟩)]

theorem ownBufs_scratch :
    (ownBufs (thrV d L) : sProp 𝕄)
      = iprop((∃ f, (thrV d L).loc cc1_scratch0 ↦{fullShare} f)
          ∗ bigSep ((ownRefs (τ := τ) (.scVector (cV L) (jV L))).erase ((Proc.scVector (cV L) (jV L)).devRef cc1_scratch0))
              fun b => iprop(∃ f, ((d, b) : Loc nD τ sig) ↦{fullShare} f)) := by
  unfold SparseCore.Cfg.ownBufs
  exact SparseCore.bigSep_erase' (SparseCore.Cfg.mem_ownRefs_of_owner (p := Proc.scVector (cV L) (jV L))
    (b := (Proc.scVector (cV L) (jV L)).devRef cc1_scratch0) rfl)

/-- Rows written with what was read at the same rows of the source are the source there. -/
theorem rows_written (x : Buf (Elt F) (xLoc d)) (f : Buf (Elt F) (oLoc d)) (pay : S24x4096.Idx → Elt F .f32)
    (hpay : pay = (xRows L).view.read (Elt F) x) :
    ∀ i ∈ (oRows L).view.set,
      (oRows L).view.writes (Elt F) f [(⟨Rect.whole S24x4096, pay⟩ : View.Piece (Elt F) S24x4096 .f32)] i = x i := by
  subst hpay
  intro i hi
  obtain ⟨j, -, rfl⟩ := Finset.mem_map.mp hi
  have he : (oRows L).view.emb j = ((oRows L).view.slice (Rect.whole S24x4096)).emb j :=
    congrArg (oRows L).view.emb (Rect.emb_whole_apply S24x4096 j).symm
  rw [View.writes_singleton, he, View.write_emb_of_mem _ _ (Finset.mem_univ j), ← he, View.read_apply]
  rfl

set_option maxHeartbeats 4000000 in
/-- The task of the subcore at `L`: the rows in, their wait, the rows out, their wait. -/
theorem tile_body (x : (d : Dev nD) → Buf (Elt F) (xLoc d)) (hF : (K (F := F)).Facts) (O : CellTallies nD τ sig (HIx 1))
    (W : Waits sig (HIx 1)) (hO : ∀ g, O g none = 0) :
    iprop(levAts (K (F := F)).L (K (F := F)).lev ∗ emp ∗ (xBlk x d (bL L) ∗ ∃ f, oBlk d (bL L) f)
        ∗ scopedBufs (thrV d L) ∗ scopedSems0 (thrV d L) ∗ owes (thrV d L) O W)
      ⊢ wp frame (wpE (defs₀ (F := F)) 𝒱₀ (thrV d L) none) Set.univ
          (cc1_lin_k L xM (Memref.isWhole_whole _) oM (Memref.isWhole_whole _) sM (Memref.isWhole_whole _) cc1_scoped0 cc1_scoped1)
          fun _ => iprop((xBlk x d (bL L) ∗ oBlk d (bL L) (x d)) ∗ scopedBufs (thrV d L) ∗ scopedSems0 (thrV d L)
            ∗ ∃ W', ⌜∀ p ∈ W', p ∈ W ∨ p.2 = none⌝ ∗ owes (thrV d L) O W') := by
  simp only [cc1_lin_k_eq_skeleton]; unfold cc1_lin_k_skel
  rw [(K (F := F)).scopedBufs_V hF d (cV L) (jV L), SparseCore.Cfg.scopedSems0_V (Val := Elt F) d (cV L) (jV L), ownSems0_cells, ownBufs_scratch]
  iintro ⟨#Hlv, -, ⟨Hx, ⟨%fo, Ho⟩⟩, ⟨⟨%fs, Hs⟩, Hbufs⟩, ⟨Hin, Hout, Hsems⟩, HO⟩
  ihave Hmw := (show levAts (K (F := F)).L (K (F := F)).lev ⊢ Transfers.MayWaits (thrV d L) (default : HIx 1) O from
    (K (F := F)).mayWaits_none (thr := thrV d L) hO) $$ Hlv
  ihave Hx' := (Entails.of_eq (pts_xRows (F := F) d L _).symm) $$ Hx
  ihave Ho' := (Entails.of_eq (pts_oRows (F := F) d L _).symm) $$ Ho
  ihave Hs' := (Entails.of_eq (pts_sM (F := F) d L _).symm) $$ Hs
  sl_exec
  sl_step
  have hpay : tile_body.sl.dma0_1 d L x fs = (xRows L).view.read (Elt F) (x d) := by
    unfold tile_body.sl.dma0_1 tile_body.sl.dma0
    rw [ReadAs.apply_same, ReadAs.apply_same, View.write_whole_univ]
    rfl
  ihave Ho'' := (show _ ⊢ _ from Entails.of_eq ((pointsTo_congr (rows_written d L (x d) fo (tile_body.sl.dma0_1 d L x fs) hpay)).trans (pts_oRows (F := F) d L (x d)))) $$ Ho'
  ihave Hx'' := (show _ ⊢ _ from Entails.of_eq (pts_xRows (F := F) d L (x d))) $$ Hx'
  isplitl [Hx'' Ho'']
  · isplitl [Hx'']; · iexact Hx''
    iexact Ho''
  isplitl [Hs' Hbufs]
  · isplitl [Hs']; · iexists _; iexact Hs'
    iexact Hbufs
  isplitl [Hin Hout Hsems]
  · isplitl [Hin]; · iexact Hin
    isplitl [Hout]; · iexact Hout
    iexact Hsems
  iexists _; isplitr
  swap; · iexact HO
  ipureintro; intro p hp
  rcases Finset.mem_insert.mp hp with hp | hp; · exact .inr (hp ▸ rfl)
  rcases Finset.mem_insert.mp hp with hp | hp; · exact .inr (hp ▸ rfl)
  exact .inl hp

end Tile

/-! ## The obligation -/

def coordsV (c : Fin (grid1.bound 0)) (s : Fin (grid1.bound 1)) : grid1.Coords :=
  fun | 0 => c | 1 => s | ⟨_ + 2, h⟩ => absurd h (Nat.not_lt.2 (Nat.le_add_left _ _))

theorem defs₀_vector (c : Fin τ.nSC) (s : Fin τ.nSub) :
    defs₀ (F := F) (.scVector c s) 1 ()
      = SparseCore.onTile hcore1 hsub1 (fun c s => cc1_lin_k (coordsV c s)
          xM (Memref.isWhole_whole _) oM (Memref.isWhole_whole _) sM (Memref.isWhole_whole _) cc1_scoped0 cc1_scoped1) ⟨⟩ c s := rfl

omit [FloatOps F] in
/-- The waits recorded carry no height, so they are within what the call allows. -/
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

theorem tileObl (x : (d : Dev nD) → Buf (Elt F) (xLoc d)) : (K (F := F)).TileObl (D (F := F)) 𝒱 (P x) v₀ 0 := by
  intro d c i O W hO _ _
  simp only [show (P (F := F) x).ox = fun _ _ => 0 from rfl, add_zero]
  have hci : ((K (F := F)).core 0 c).val < grid1.bound 0 ∧ ((K (F := F)).sub 0 i).val < grid1.bound 1 := ⟨c.isLt, i.isLt⟩
  change _ ⊢ wp _ _ _ (Pipeline.liftProg (defs₀ (F := F) (.scVector ((K (F := F)).core 0 c) ((K (F := F)).sub 0 i)) 1 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact (tile_body d (coordsV ⟨_, hci.1⟩ ⟨_, hci.2⟩) x scFacts O W hO).trans (wp_mono frame _ _ fun _ => obl_post)

/-! ## A core's operands are its subcores' -/

theorem bigSep_tasks (Φ : Fin 16 → sProp 𝕄) :
    (bigSep Finset.univ fun i : Fin ((K (F := F)).nSub 0) => Φ (Fin.cast nSub_eq i)) = bigSep Finset.univ Φ :=
  bigSep_congr fun _ _ => congrArg Φ (Fin.ext rfl)

theorem vecSplit (x : (d : Dev nD) → Buf (Elt F) (xLoc d)) : (K (F := F)).VecSplit' (P x) 0 := by
  intro d c
  show (bigSep Finset.univ fun s : Fin 16 => iprop(xBlk x d (blk (Fin.cast nCore_eq c) s) ∗ ∃ f, oBlk d (blk (Fin.cast nCore_eq c) s) f))
    ⊢ |={Set.univ}=> iprop(
      (bigSep Finset.univ fun i : Fin ((K (F := F)).nSub 0) =>
        iprop(xBlk x d (blk (Fin.cast nCore_eq c) (Fin.cast nSub_eq i)) ∗ ∃ f, oBlk d (blk (Fin.cast nCore_eq c) (Fin.cast nSub_eq i)) f))
      ∗ ((bigSep Finset.univ fun i : Fin ((K (F := F)).nSub 0) =>
          iprop(xBlk x d (blk (Fin.cast nCore_eq c) (Fin.cast nSub_eq i)) ∗ oBlk d (blk (Fin.cast nCore_eq c) (Fin.cast nSub_eq i)) (x d)))
        -∗ bigSep Finset.univ fun s : Fin 16 => iprop(xBlk x d (blk (Fin.cast nCore_eq c) s) ∗ oBlk d (blk (Fin.cast nCore_eq c) s) (x d))))
  rw [bigSep_tasks (F := F) (fun s => iprop(xBlk x d (blk (Fin.cast nCore_eq c) s) ∗ ∃ f, oBlk d (blk (Fin.cast nCore_eq c) s) f)),
    bigSep_tasks (F := F) (fun s => iprop(xBlk x d (blk (Fin.cast nCore_eq c) s) ∗ oBlk d (blk (Fin.cast nCore_eq c) s) (x d)))]
  iintro H; imodintro
  isplitl [H]; · iexact H
  iintro H; iexact H

/-! ## The whole buffers are their blocks -/

/-- Every block is some subcore's, once. -/
def blkEquiv : Fin 2 × Fin 16 ≃ Fin 32 where
  toFun p := blk p.1 p.2
  invFun b := (⟨b.val % 2, by omega⟩, ⟨b.val / 2, by omega⟩)
  left_inv p := by
    obtain ⟨c, s⟩ := p
    refine Prod.ext (Fin.ext ?_) (Fin.ext ?_) <;> simp [blk] <;> omega
  right_inv b := by apply Fin.ext; simp [blk]; omega

theorem rows_disjoint : ∀ i ∈ (Finset.univ : Finset (Fin 32)), ∀ j ∈ (Finset.univ : Finset (Fin 32)), i ≠ j → Disjoint (rowSet i) (rowSet j) :=
  fun _ _ _ _ h => Rect.part_disjoint rows_dvd h
theorem rows_cover : (Finset.univ : Finset (Fin 32)).biUnion rowSet = Finset.univ := Rect.biUnion_part rows_dvd

omit [FloatOps F] in
theorem xPts_blocks (d : Dev nD) (f : Buf (Elt F) (xLoc d)) :
    (xLoc d ↦{fullShare} f : sProp 𝕄) = bigSep Finset.univ fun i : Fin 32 => xLoc d ↦[rowSet i]{fullShare} f := by
  rw [← pointsTo_biUnion Finset.univ (ℓ := xLoc d) rowSet rows_disjoint, rows_cover]
omit [FloatOps F] in
theorem oPts_blocks (d : Dev nD) (f : Buf (Elt F) (oLoc d)) :
    (oLoc d ↦{fullShare} f : sProp 𝕄) = bigSep Finset.univ fun i : Fin 32 => oLoc d ↦[rowSet i]{fullShare} f := by
  rw [← pointsTo_biUnion Finset.univ (ℓ := oLoc d) rowSet rows_disjoint, rows_cover]

/-- A family over the blocks, by SparseCore and subcore. -/
theorem bigSep_blocks (Φ : Fin 32 → sProp 𝕄) :
    (bigSep Finset.univ fun c : Fin ((K (F := F)).nCore 0) => bigSep Finset.univ fun s : Fin 16 => Φ (blk (Fin.cast nCore_eq c) s))
      = bigSep Finset.univ Φ := by
  rw [bigSep_univ_equiv blkEquiv Φ, bigSep_univ_prod]
  exact bigSep_congr fun _ _ => bigSep_congr fun _ _ => rfl

theorem blk_any (x : (d : Dev nD) → Buf (Elt F) (xLoc d)) (d : Dev nD) (b : Fin 32) (f : Buf (Elt F) (oLoc d)) :
    iprop(xBlk x d b ∗ oBlk d b f) ⊢ (iprop(xBlk x d b ∗ ∃ f, oBlk d b f) : sProp 𝕄) := by
  iintro ⟨H1, H2⟩
  isplitl [H1]; · iexact H1
  iexists f; iexact H2

/-- What the call needs, out of the two whole buffers. -/
theorem st_of_whole (x : (d : Dev nD) → Buf (Elt F) (xLoc d)) (d : Dev nD) (f : Buf (Elt F) (oLoc d)) :
    iprop((xLoc d ↦{fullShare} x d) ∗ oLoc d ↦{fullShare} f)
      ⊢ (bigSep Finset.univ fun c : Fin ((K (F := F)).nCore 0) => (P x).st 0 d c : sProp 𝕄) := by
  show _ ⊢ bigSep Finset.univ fun c : Fin ((K (F := F)).nCore 0) =>
    bigSep Finset.univ fun s : Fin 16 => iprop(xBlk x d (blk (Fin.cast nCore_eq c) s) ∗ ∃ f, oBlk d (blk (Fin.cast nCore_eq c) s) f)
  rw [bigSep_blocks (F := F) (fun b => iprop(xBlk x d b ∗ ∃ f, oBlk d b f)), xPts_blocks, oPts_blocks, ← bigSep_sep']
  exact bigSep_mono fun b _ => blk_any x d b f

/-- What the call returns: the destination at the source's contents. -/
theorem whole_of_dn (x : (d : Dev nD) → Buf (Elt F) (xLoc d)) (d : Dev nD) :
    (bigSep Finset.univ fun c : Fin ((K (F := F)).nCore 0) => (P x).dn 0 d c : sProp 𝕄)
      ⊢ iprop((xLoc d ↦{fullShare} x d) ∗ oLoc d ↦{fullShare} (show Buf (Elt F) (oLoc d) from x d)) := by
  show (bigSep Finset.univ fun c : Fin ((K (F := F)).nCore 0) =>
    bigSep Finset.univ fun s : Fin 16 => iprop(xBlk x d (blk (Fin.cast nCore_eq c) s) ∗ oBlk d (blk (Fin.cast nCore_eq c) s) (x d))) ⊢ _
  rw [bigSep_blocks (F := F) (fun b => iprop(xBlk x d b ∗ oBlk d b (x d))), xPts_blocks, oPts_blocks, ← bigSep_sep']

end Cert.KernelIdeal.Run

end
-- ==== Proof.Run.lean ====
/-
  The kernel's run: @main on the TensorCore — the table, the staged copy's region, the SparseCore copy, the corner's
  addition — over the ghost state the launch deals out, and what every final state holds.
-/
module

public import proofs.«01_k».proof.Proof.Host
public import proofs.«01_k».proof.Proof.Sc

@[expose] public section

set_option maxRecDepth 16384

noncomputable section

namespace Cert.KernelIdeal.Run

open Cert.KernelIdeal Cert.KernelIdeal.Gen
open Idealize.ShloMosaic Idealize.ShloMosaic.TcCoe Idealize.ShloMosaic.StableHlo
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 1) (Elt F) ℕ UU ℕ

variable (m : (ℓ : Loc nD τ sig) → Buf (Elt F) ℓ) (ρ : Dev nD → PrngReg)

/-! ## The buffers' contents along @main -/

/-- At the launch. -/
def W0 (d : Dev nD) : Valuation τ sig (Elt F) := fun b => m (d, b)
/-- Before the region. -/
def W1 (d : Dev nD) : Valuation τ sig (Elt F) := after preOps (W0 m d)

/-- What the region is entered with. -/
def entry (d : Dev nD) : Entry F where
  x := W0 m d a0'
  o1 := W0 m d s9'
  o2 := W0 m d f9'
  tb := tab
  ok := tab_ok

/-- After the region. -/
def W2 (d : Dev nD) : Valuation τ sig (Elt F) :=
  Function.update (Function.update (W1 m d) s9' (slowOf (entry m d))) f9' (entry m d).x
/-- Before the SparseCore launch. -/
def W3 (d : Dev nD) : Valuation τ sig (Elt F) := after midOps (W2 m d)
/-- What the SparseCore copies. -/
def scIn (d : Dev nD) : Buf (Elt F) (xLoc d) := W3 m d x11'
/-- After the SparseCore launch. -/
def W4 (d : Dev nD) : Valuation τ sig (Elt F) := Function.update (W3 m d) o12' (show Buf (Elt F) (oLoc d) from scIn m d)
/-- At the end. -/
def W5 (d : Dev nD) : Valuation τ sig (Elt F) := after sufOps (W4 m d)

theorem W2_s9 (d : Dev nD) : W2 m d s9' = slowOf (entry m d) := by
  unfold W2
  rw [Function.update_of_ne (show s9' ≠ f9' from devRef_ne_of_ne (by decide)), Function.update_self]
theorem W2_f9 (d : Dev nD) : W2 m d f9' = (entry m d).x := by
  unfold W2
  rw [Function.update_self]
theorem W2_ne (d : Dev nD) (b : DevRef τ sig) (h : b ≠ s9') (h' : b ≠ f9') : W2 m d b = W1 m d b := by
  unfold W2
  rw [Function.update_of_ne h', Function.update_of_ne h]
theorem W2_a0 (d : Dev nD) : W2 m d a0' = W0 m d a0' := by
  rw [W2_ne m d a0' (devRef_ne_of_ne (by decide)) (devRef_ne_of_ne (by decide))]
  exact pre_a0 _
theorem W2_t8 (d : Dev nD) : W2 m d t8' = tab (F := F) := by
  rw [W2_ne m d t8' (devRef_ne_of_ne (by decide)) (devRef_ne_of_ne (by decide))]
  exact pre_tab _
theorem W4_o (d : Dev nD) : W4 m d o12' = (show Buf (Elt F) (oLoc d) from scIn m d) := by
  unfold W4
  rw [Function.update_self]
theorem W4_ne (d : Dev nD) (b : DevRef τ sig) (h : b ≠ o12') : W4 m d b = W3 m d b := by
  unfold W4
  rw [Function.update_of_ne h]

theorem W5_a0 (d : Dev nD) : W5 m d a0' = m ((SparseCore.T d : Thread nD τ).loc main_arg0) := by
  unfold W5
  rw [suf_a0, W4_ne m d a0' (devRef_ne_of_ne (by decide))]
  unfold W3
  rw [mid_a0, W2_a0, W0]
theorem W5_f9 (d : Dev nD) : W5 m d f9' = (entry m d).x := by
  unfold W5
  rw [suf_f9, W4_ne m d f9' (devRef_ne_of_ne (by decide))]
  unfold W3
  rw [mid_f9, W2_f9]
theorem W5_r21 (d : Dev nD) : W5 m d r21' = finalSlow (slowOf (entry m d)) (scIn m d) := by
  unfold W5
  rw [suf_r21, W4_o, W4_ne m d s9' (devRef_ne_of_ne (by decide))]
  unfold W3
  rw [mid_s9, W2_s9]

/-! ## Taking buffers out of the held set and putting them back -/

abbrev S4 : Finset (DevRef τ sig) := {a0', s9', f9', t8'}
abbrev S2 : Finset (DevRef τ sig) := {x11', o12'}
abbrev S3 : Finset (DevRef τ sig) := {a0', r21', f9'}

theorem S4_sub : S4 ⊆ Pipeline.ucRefs τ sig := by
  intro b hb
  rcases Finset.mem_insert.mp hb with rfl | hb
  · exact mem_uc _ (by decide)
  rcases Finset.mem_insert.mp hb with rfl | hb
  · exact mem_uc _ (by decide)
  rcases Finset.mem_insert.mp hb with rfl | hb
  · exact mem_uc _ (by decide)
  rw [Finset.mem_singleton.mp hb]
  exact mem_uc _ (by decide)
theorem S3_sub : S3 ⊆ Pipeline.ucRefs τ sig := by
  intro b hb
  rcases Finset.mem_insert.mp hb with rfl | hb
  · exact mem_uc _ (by decide)
  rcases Finset.mem_insert.mp hb with rfl | hb
  · exact mem_uc _ (by decide)
  rw [Finset.mem_singleton.mp hb]
  exact mem_uc _ (by decide)
theorem S2_sub : S2 ⊆ Pipeline.ucRefs τ sig := by
  intro b hb
  rcases Finset.mem_insert.mp hb with rfl | hb
  · exact mem_uc _ (by decide)
  rw [Finset.mem_singleton.mp hb]
  exact mem_uc _ (by decide)

theorem held_S4 (d : Dev nD) (V : Valuation τ sig (Elt F)) :
    (held (SparseCore.T d) S4 V : sProp 𝕄)
      = iprop(((SparseCore.T d : Thread nD τ).loc main_arg0 ↦{fullShare} V a0') ∗ ((SparseCore.T d : Thread nD τ).loc main_v9_0 ↦{fullShare} V s9')
        ∗ ((SparseCore.T d : Thread nD τ).loc main_v9_1 ↦{fullShare} V f9') ∗ ((SparseCore.T d : Thread nD τ).loc main_v8 ↦{fullShare} V t8')) := by
  unfold held S4
  rw [SparseCore.bigSep_insert' (by decide), SparseCore.bigSep_insert' (by decide), SparseCore.bigSep_insert' (by decide), bigSep_singleton]
theorem held_S3 (d : Dev nD) (V : Valuation τ sig (Elt F)) :
    (held (SparseCore.T d) S3 V : sProp 𝕄)
      = iprop(((SparseCore.T d : Thread nD τ).loc main_arg0 ↦{fullShare} V a0') ∗ ((SparseCore.T d : Thread nD τ).loc main_v21 ↦{fullShare} V r21')
        ∗ ((SparseCore.T d : Thread nD τ).loc main_v9_1 ↦{fullShare} V f9')) := by
  unfold held S3
  rw [SparseCore.bigSep_insert' (by decide), SparseCore.bigSep_insert' (by decide), bigSep_singleton]
theorem held_S2 (d : Dev nD) (V : Valuation τ sig (Elt F)) :
    (held (SparseCore.T d) S2 V : sProp 𝕄) = iprop((xLoc d ↦{fullShare} V x11') ∗ (oLoc d ↦{fullShare} V o12')) := by
  unfold held S2
  rw [SparseCore.bigSep_insert' (by decide), bigSep_singleton]

/-- Every unscoped buffer but the region's four. -/
abbrev rest1 (d : Dev nD) : sProp 𝕄 := held (SparseCore.T d) (Pipeline.ucRefs τ sig \ S4) (W1 m d)
/-- Every unscoped buffer but the SparseCore's two. -/
abbrev rest3 (d : Dev nD) : sProp 𝕄 := held (SparseCore.T d) (Pipeline.ucRefs τ sig \ S2) (W3 m d)

theorem out1 (d : Dev nD) : (held (SparseCore.T d) (Pipeline.ucRefs τ sig) (W1 m d) : sProp 𝕄)
    = iprop(four (entry m d) d (entry m d).o1 (entry m d).o2 ∗ rest1 m d) := by
  rw [held_sub_split _ S4_sub, held_S4]
  unfold W1
  rw [pre_a0, pre_s9, pre_f9, pre_tab]
  rfl
theorem in1 (d : Dev nD) : iprop(four (entry m d) d (slowOf (entry m d)) (entry m d).x ∗ rest1 m d)
    = (held (SparseCore.T d) (Pipeline.ucRefs τ sig) (W2 m d) : sProp 𝕄) := by
  rw [held_sub_split _ S4_sub (W2 m d), held_S4, W2_a0, W2_s9, W2_f9, W2_t8,
    held_congr (V := W2 m d) (V' := W1 m d) _ (fun b hb => W2_ne m d b
      (fun h => (Finset.mem_sdiff.mp hb).2 (by rw [h]; decide)) (fun h => (Finset.mem_sdiff.mp hb).2 (by rw [h]; decide)))]
  rfl
theorem out3 (d : Dev nD) : (held (SparseCore.T d) (Pipeline.ucRefs τ sig) (W3 m d) : sProp 𝕄)
    = iprop(((xLoc d ↦{fullShare} scIn m d) ∗ (oLoc d ↦{fullShare} W3 m d o12')) ∗ rest3 m d) := by
  rw [held_sub_split _ S2_sub, held_S2]
  rfl
theorem in3 (d : Dev nD) : iprop(((xLoc d ↦{fullShare} scIn m d) ∗ (oLoc d ↦{fullShare} (show Buf (Elt F) (oLoc d) from scIn m d))) ∗ rest3 m d)
    = (held (SparseCore.T d) (Pipeline.ucRefs τ sig) (W4 m d) : sProp 𝕄) := by
  rw [held_sub_split _ S2_sub (W4 m d), held_S2, W4_o, W4_ne m d x11' (devRef_ne_of_ne (by decide)),
    held_congr (V := W4 m d) (V' := W3 m d) _ (fun b hb => W4_ne m d b
      (fun h => (Finset.mem_sdiff.mp hb).2 (by rw [h]; decide)))]
  rfl

/-- What @main leaves the claims. -/
abbrev FIN (d : Dev nD) : sProp 𝕄 :=
  iprop(((SparseCore.T d : Thread nD τ).loc main_arg0 ↦{fullShare} m ((SparseCore.T d : Thread nD τ).loc main_arg0))
    ∗ ((SparseCore.T d : Thread nD τ).loc main_v21 ↦{fullShare} finalSlow (slowOf (entry m d)) (scIn m d))
    ∗ ((SparseCore.T d : Thread nD τ).loc main_v9_1 ↦{fullShare} (entry m d).x))

theorem out5 (d : Dev nD) : (held (SparseCore.T d) (Pipeline.ucRefs τ sig) (W5 m d) : sProp 𝕄) ⊢ FIN m d := by
  rw [held_sub_split _ S3_sub, held_S3, W5_a0, W5_f9, W5_r21]
  iintro ⟨H, -⟩
  iexact H

/-! ## The launch's ghost state -/

/-- The table is the same on every device. -/
abbrev e₀ : Entry F := entry m 0

/-- The region's cells and transfers, dealt to device `d`. -/
abbrev G (d : Dev nD) : sProp 𝕄 :=
  iprop(Pipeline.PerCore.cellsGhost (Pipeline.pinD pcfgs (adm (entry m d))) EP 0 d ∗ Pipeline.PerCore.toksInit (Pipeline.pinD pcfgs (adm (entry m d))) EP 0 d)

def u₀ : UU := (initOf (K (F := F)).hsCells (K (F := F)).hsToks,
  initOf (Pipeline.PerCore.cells (Pipeline.pinD pcfgs (adm (e₀ m))) (phinj (e₀ m)))
    (Pipeline.PerCore.launchToks (Pipeline.pinD pcfgs (adm (e₀ m))) (phinj (e₀ m))), 1)

theorem own_EP (a : UR) : (BI.own (((Emb.inl : Emb UR (UR × Counters)).trans embR) a) : sProp 𝕄) ⊢ BI.own (EP a) := by
  unfold EP
  exact BI.Entails.refl _

theorem adm_eq (d : Dev nD) : adm (entry m d) = adm (e₀ m) := rfl

theorem deal_ghost : iprop((bigSep Finset.univ fun c : Dev nD => bigSep Finset.univ fun p => Pipeline.PerCore.cellsGhost (Pipeline.pinD pcfgs (adm (e₀ m))) EP p c)
      ∗ (bigSep Finset.univ fun c : Dev nD => bigSep Finset.univ fun p => (Pipeline.PerCore.toksInit (Pipeline.pinD pcfgs (adm (e₀ m))) EP p c : sProp 𝕄)))
    ⊢ bigSep Finset.univ fun d : Dev nD => G m d := by
  rw [← bigSep_sep']
  refine bigSep_mono fun d _ => ?_
  rw [bigSep_univ_of_subsingleton (0 : Fin 1), bigSep_univ_of_subsingleton (0 : Fin 1)]
  exact BI.Entails.refl _

theorem hu₀ : (ownU (u₀ m) : sProp 𝕄)
    ⊢ |={Set.univ}=> iprop(BI.own (EH (initOf (K (F := F)).hsCells (K (F := F)).hsToks)) ∗ (bigSep Finset.univ fun d : Dev nD => G m d)
        ∗ bigSep Finset.univ fun thr : Thread nD τ => bigSep Finset.univ fun q : Fin 1 => (P (scIn m)).x q thr) := by
  unfold u₀
  iintro Hu
  ihave H := (ownU_pair _ _) $$ Hu
  icases H with ⟨HH, HR⟩
  ihave H2 := (own_pair_emb embR _ _) $$ HR
  icases H2 with ⟨HR, -⟩
  ihave HR := (own_EP _) $$ HR
  imod (Pipeline.PerCore.fund_ghost (Pipeline.pinD pcfgs (adm (e₀ m))) EP (phinj (e₀ m))) $$ HR with ⟨Hg, Ht⟩
  imodintro
  isplitl [HH]; · iexact HH
  isplitl [Hg Ht]
  · iapply (deal_ghost m)
    isplitl [Hg]; · iexact Hg
    iexact Ht
  rw [show (bigSep Finset.univ fun thr : Thread nD τ => bigSep Finset.univ fun q : Fin 1 => (P (scIn m)).x q thr) = (iprop(emp) : sProp 𝕄) from
    (bigSep_congr fun _ _ => bigSep_emp_const _).trans (bigSep_emp_const _)]
  iempintro

/-! ## @main on the TensorCore -/

variable [∀ e, Nonempty (Elt F e)]

/-- Before the launch the core holds what it owes, and the rest of its part of the handshakes. -/
theorem tcSt0_split (d : Dev nD) : ∃ R : sProp 𝕄, ((K (F := F)).tcSt EH d 0 : sProp 𝕄) = iprop(owed0 (F := F) d ∗ R) := ⟨_, rfl⟩

theorem hmain (κ : GSem nD τ sig → ℕ) (d : Dev nD) :
    iprop((K (F := F)).ctx EH (P (scIn m)) κ ∗ (K (F := F)).tcSt EH d 0 ∗ (K (F := F)).tcRes m ρ d ∗ G m d)
      ⊢ wp frame (wpE ((K (F := F)).defs (D (F := F))) 𝒱 (SparseCore.T d) none) Set.univ (main d)
          fun _ => iprop((K (F := F)).tcSt EH d 1 ∗ FIN m d ∗ (K (F := F)).tcEnd d) := by
  obtain ⟨R, hR⟩ := tcSt0_split (F := F) d
  unfold SparseCore.Cfg.tcRes SparseCore.Cfg.tcEnd
  rw [show (unscopedBufs d (fun b => m ((SparseCore.T d).loc b)) : sProp 𝕄) = held (SparseCore.T d) (Pipeline.ucRefs τ sig) (W0 m d) from
    Pipeline.unscopedBufs_held d (W0 m d), main_eq, ← seq_bind_seqK]
  iintro ⟨#Hctx, Hst, ⟨Hb, Hheld, Hts, -⟩, Hg, Ht⟩
  iapply (wp_seq (defs := (K (F := F)).defs (D (F := F))) 𝒱 none Set.univ d (Pipeline.ucRefs τ sig) _ preOps
    (fun op h => Pipeline.sub_ucRefs op ((List.forall_iff_forall_mem.mp preOps_sub) op h)) preOps_fresh (W0 m d)) $$ [Hb Hheld]
  · isplitl [Hb] <;> iassumption
  iintro ⟨Hb, Hheld⟩
  rw [wp_bind]
  ihave Hst := (Entails.of_eq hR) $$ Hst
  icases Hst with ⟨Howe, Hrest⟩
  ihave Hh := (show held (d.tc : Thread nD τ) (Pipeline.ucRefs τ sig) (after preOps (W0 m d)) ⊢ _ from Entails.of_eq (out1 m d)) $$ Hheld
  icases Hh with ⟨Hfour, Hr1⟩
  ihave #Hlev := ((K (F := F)).ctx_levAts κ) $$ Hctx
  iapply (wp_region (entry m d) d _)
  isplitl [Hr1 Hrest Hts]
  · iintro ⟨Hb, Hfour, Howe⟩
    ihave Hheld := (Entails.of_eq (in1 m d)) $$ [Hfour Hr1]
    · isplitl [Hfour] <;> iassumption
    rw [← seq_bind_seqK]
    iapply (wp_seq (defs := (K (F := F)).defs (D (F := F))) 𝒱 none Set.univ d (Pipeline.ucRefs τ sig) _ midOps
      (fun op h => Pipeline.sub_ucRefs op ((List.forall_iff_forall_mem.mp midOps_sub) op h)) midOps_fresh (W2 m d)) $$ [Hb Hheld]
    · isplitl [Hb] <;> iassumption
    iintro ⟨Hb, Hheld⟩
    ihave Hh := (show held (d.tc : Thread nD τ) (Pipeline.ucRefs τ sig) (after midOps (W2 m d)) ⊢ _ from Entails.of_eq (out3 m d)) $$ Hheld
    icases Hh with ⟨⟨Hx, Ho⟩, Hr3⟩
    rw [wp_bind]
    iapply ((K (F := F)).wp_run (D (F := F)) 𝒱 (EH := EH) (P := P (scIn m)) κ d 0) $$ [Howe Hrest Hx Ho Hb Hr3 Hts]
    isplitr; · iexact Hctx
    isplitl [Howe Hrest]
    · iapply (Entails.of_eq hR.symm)
      isplitl [Howe] <;> iassumption
    isplitl [Hx Ho]
    · iapply (st_of_whole (scIn m) d _)
      isplitl [Hx] <;> iassumption
    iintro ⟨Hst, Hdn⟩
    ihave Hdn' := (whole_of_dn (scIn m) d) $$ Hdn
    ihave Hheld := (Entails.of_eq (in3 m d)) $$ [Hdn' Hr3]
    · isplitl [Hdn'] <;> iassumption
    rw [show (seq sufOps : Prog (TpuEff nD τ sig (Elt F) (SparseCore.Sig (ΛP (F := F)) 1) .tc) PUnit) = (seq sufOps >>= fun u => .ret u) from (bind_pure _).symm]
    iapply (wp_seq (defs := (K (F := F)).defs (D (F := F))) 𝒱 none Set.univ d (Pipeline.ucRefs τ sig) _ sufOps
      (fun op h => Pipeline.sub_ucRefs op ((List.forall_iff_forall_mem.mp sufOps_sub) op h)) sufOps_fresh (W4 m d)) $$ [Hb Hheld]
    · isplitl [Hb] <;> iassumption
    iintro ⟨Hb, Hheld⟩
    ihave HF := (show held (d.tc : Thread nD τ) (Pipeline.ucRefs τ sig) (after sufOps (W4 m d)) ⊢ _ from out5 m d) $$ Hheld
    rw [wp_ret]; imodintro
    isplitl [Hst]; · iexact Hst
    isplitl [HF]; · iexact HF
    isplitl [Hb] <;> iassumption
  isplitl [Hb]; · iexact Hb
  isplitl [Hfour Howe]
  · isplitl [Hfour] <;> iassumption
  isplitr; · iexact Hlev
  isplitl [Hg] <;> iassumption

/-- What the claims read of device `d`'s final state. -/
def fq (d : Dev nD) (s' : Phys nD τ sig (Elt F)) : Prop :=
  s'.mem.mem ((SparseCore.T d : Thread nD τ).loc main_arg0) = m ((SparseCore.T d : Thread nD τ).loc main_arg0)
    ∧ s'.mem.mem ((SparseCore.T d : Thread nD τ).loc main_v21) = finalSlow (slowOf (entry m d)) (scIn m d)
    ∧ s'.mem.mem ((SparseCore.T d : Thread nD τ).loc main_v9_1) = (entry m d).x

theorem hfin (d : Dev nD) (s' : Phys nD τ sig (Elt F)) : iprop(FIN m d ∗ SI s') ⊢ (⌜fq m d s'⌝ : sProp 𝕄) := by
  iintro ⟨⟨Ha, Hr, Hf⟩, HSI⟩
  ihave H := (persistent_entails_right (SI_pointsTo_agree (st := s') (ℓ := (SparseCore.T d : Thread nD τ).loc main_arg0) (I := Finset.univ) (q := fullShare)
    (f := m ((SparseCore.T d : Thread nD τ).loc main_arg0)))) $$ [HSI Ha]
  · isplitl [HSI] <;> iassumption
  icases H with ⟨%ha, HSI, -⟩
  ihave H := (persistent_entails_right (SI_pointsTo_agree (st := s') (ℓ := (SparseCore.T d : Thread nD τ).loc main_v21) (I := Finset.univ) (q := fullShare)
    (f := finalSlow (slowOf (entry m d)) (scIn m d)))) $$ [HSI Hr]
  · isplitl [HSI] <;> iassumption
  icases H with ⟨%hr, HSI, -⟩
  ihave H := (SI_pointsTo_agree (st := s') (ℓ := (SparseCore.T d : Thread nD τ).loc main_v9_1) (I := Finset.univ) (q := fullShare) (f := (entry m d).x)) $$ [HSI Hf]
  · isplitl [HSI] <;> iassumption
  icases H with %hf
  ipureintro
  exact ⟨funext fun i => ha i (Finset.mem_univ i), funext fun i => hr i (Finset.mem_univ i), funext fun i => hf i (Finset.mem_univ i)⟩

/-! ## The program's run -/

def QC : PUnit × MemSt nD τ sig (Elt F) → Prop := fun r =>
  (∀ c : Dev nD, r.2.mem ((SparseCore.T c : Thread nD τ).loc main_arg0) = m ((SparseCore.T c : Thread nD τ).loc main_arg0)
    ∧ r.2.mem ((SparseCore.T c : Thread nD τ).loc main_v21) = finalSlow (slowOf (entry m c)) (scIn m c)
    ∧ r.2.mem ((SparseCore.T c : Thread nD τ).loc main_v9_1) = (entry m c).x) ∧ r.2.sem = fun _ => 0

/-- Every execution of the kernel from a memory with zero counters ends, nothing faulting, its counters at zero again,
    the argument unchanged and the two results at these contents. -/
theorem run_main : θ_run (defs (F := F)) (threads (F := F)) ⟨m, fun _ => 0, ρ⟩ (QC m) :=
  SparseCore.Cfg.θ_run_sc_quiescent (K := K (F := F)) (D := D (F := F)) (𝒱 := 𝒱) (EH := EH) (P := P (scIn m)) (A := ∅) scFacts v₀
    (fun q hq => match q with | 0 => nomatch hq)
    (fun q _ => match q with | 0 => tileObl (scIn m))
    (fun q _ => match q with | 0 => SparseCore.Cfg.VecSplit.of_plain (vecSplit (scIn m)))
    m ρ main (G m) (FIN m) (u₀ m) (sep_elim_left.trans (hu₀ m)) (hmain m ρ) (fq m) (hfin m) (QC m) (fun _ h hz => ⟨h, hz⟩)

end Cert.KernelIdeal.Run

end
-- ==== Proof.RefRun.lean ====
/-
  The reference's run: @main's operations as one straight line, and what they leave at its two results.
-/
module

public import proofs.«01_k».proof.Defs
public import Idealize.ShloMosaic.Lib.StableHlo.Run
public import Idealize.ShloMosaic.PureOps.Ideal
public import proofs.«01_k».proof.Proof.Gen.ReferenceIdeal

@[expose] public section

set_option maxRecDepth 16384

noncomputable section

namespace Cert.ReferenceIdeal.Run

open Cert.ReferenceIdeal Cert.ReferenceIdeal.Gen
open Idealize.ShloMosaic Idealize.ShloMosaic.TcCoe Idealize.ShloMosaic.StableHlo Idealize.SL.Sem

variable {F : FTy → Type} [FloatOps F]

/-- @main's operations, in order. -/
abbrev ops : List (HloOp τ sig (Elt F)) :=
  [ nullary main_c (constantI S_ 32 0#32),
    nullary main_c_0 (constantI S_ 32 63#32),
    unary main_c main_call0_v0 (sitofp .f32),
    unary main_c_0 main_call0_v1 (sitofp .f32),
    binary main_call0_v1 main_call0_v0 main_call0_v2 subf,
    nullary main_call0_cst (constant S_ .f32 0x41700000#32),
    binary main_call0_v2 main_call0_cst main_call0_v3 Host.divf,
    nullary main_call0_v4 (sitofp .f32 (iotaInDim S15 32 0)),
    nullary main_call0_cst_0 (constant S_ .f32 0x41700000#32),
    unary main_call0_cst_0 main_call0_v5 (broadcastInDim S15 ![] bcast_S_S15),
    binary main_call0_v4 main_call0_v5 main_call0_v6 Host.divf,
    reshape main_call0_v0 main_call0_v7 (rfl : (.f32 : EltTy) = .f32) shapeCasts_S_S1,
    nullary main_call0_cst_1 (constant S_ .f32 0x3F800000#32),
    unary main_call0_cst_1 main_call0_v8 (broadcastInDim S15 ![] bcast_S_S15),
    binary main_call0_v8 main_call0_v6 main_call0_v9 subf,
    unary main_call0_v7 main_call0_v10 (broadcastInDim S15 ![0] bcast_S1_S15_0),
    binary main_call0_v10 main_call0_v9 main_call0_v11 mulf,
    reshape main_call0_v1 main_call0_v12 (rfl : (.f32 : EltTy) = .f32) shapeCasts_S_S1,
    unary main_call0_v12 main_call0_v13 (broadcastInDim S15 ![0] bcast_S1_S15_0),
    binary main_call0_v13 main_call0_v6 main_call0_v14 mulf,
    binary main_call0_v11 main_call0_v14 main_call0_v15 addf,
    unary main_call0_v1 main_call0_v16 (broadcastInDim S1 ![] bcast_S_S1),
    binary main_call0_v15 main_call0_v16 main_v0 (fun a b => concatenate S16 0 [⟨S15, a⟩, ⟨S1, b⟩] concatenates_S15_S1_S16_d0),
    unary main_v0 main_v1 (fptosi 32 : (⟨S16, .f32⟩ : BufTy).Contents (Elt F) → (⟨S16, .i32⟩ : BufTy).Contents (Elt F)),
    nullary main_call1_c (constantI S_ 32 0#32),
    unary main_call1_c main_call1_v0 (broadcastInDim S16 ![] bcast_S_S16),
    binary main_v1 main_call1_v0 main_call1_v1 (cmpi .slt),
    nullary main_call1_c_0 (constantI S_ 32 64#32),
    unary main_call1_c_0 main_call1_v2 (broadcastInDim S16 ![] bcast_S_S16),
    binary main_v1 main_call1_v2 main_call1_v3 addi,
    ternary main_call1_v1 main_call1_v3 main_v1 main_call1_v4 select,
    unary main_call1_v4 main_call1_v5 (broadcastInDim S16x1 ![0] bcast_S16_S16x1_0),
    nullary main_call1_c_1 (constantI S1 32 63#32),
    nullary main_call1_c_2 (constantI S_ 32 0#32),
    unary main_call1_c_2 main_call1_v6 (broadcastInDim S16x1 ![] bcast_S_S16x1),
    binary main_call1_v5 main_call1_v6 main_call1_v7 (cmpi .sge),
    unary main_call1_c_1 main_call1_v8 (broadcastInDim S1x1 ![1] bcast_S1_S1x1_1),
    unary main_call1_v8 main_call1_v9 (broadcastInDim S16x1 ![0, 1] bcast_S1x1_S16x1_0_1),
    binary main_call1_v5 main_call1_v9 main_call1_v10 (cmpi .sle),
    binary main_call1_v7 main_call1_v10 main_call1_v11 andi,
    nullary main_call1_c_3 (constantI S_ 1 1#1),
    binary main_call1_v11 main_call1_c_3 main_call1_v12 (fun x v => Host.reduce IntOp.andi x v reducesTo_S16x1_S16_d1 h_S_),
    binary main_arg0 main_call1_v5 main_call1_v13 (fun x i => Host.gather gather_S3x64x256x256_S16x1_S3x16x256x256_023_1_n_n_1_1_31256256 x i),
    unary main_call1_v12 main_call1_v14 (broadcastInDim S3x16x256x256 ![1] bcast_S16_S3x16x256x256_1),
    nullary main_call1_cst (constant S_ .f32 0x7FC00000#32),
    unary main_call1_cst main_call1_v15 (broadcastInDim S3x16x256x256 ![] bcast_S_S3x16x256x256),
    ternary main_call1_v14 main_call1_v13 main_call1_v15 main_v2 select ]

/-- @main is that straight line. -/
theorem main_eq (c : Dev nD) : main (F := F) c = seq ops := rfl

theorem scopedRefs_eq : (Finset.univ.filter fun b : Ref sig .tc => b.isScoped) = ∅ := by decide
theorem scopedSems_eq : (Finset.univ.filter fun sm : SemLoc sig => sm.isScoped .tc) = ∅ := by decide

/-- Every operation touches TensorCore references only. -/
theorem ops_sub : (ops : List (HloOp τ sig (Elt F))).Forall fun op => op.bufs ⊆ tcRefs τ sig :=
  ⟨nullary_bufs_sub .., nullary_bufs_sub .., unary_bufs_sub .., unary_bufs_sub .., binary_bufs_sub .., nullary_bufs_sub .., binary_bufs_sub .., nullary_bufs_sub .., nullary_bufs_sub .., unary_bufs_sub .., binary_bufs_sub .., reshape_bufs_sub .., nullary_bufs_sub .., unary_bufs_sub .., binary_bufs_sub .., unary_bufs_sub .., binary_bufs_sub .., reshape_bufs_sub .., unary_bufs_sub .., binary_bufs_sub .., binary_bufs_sub .., unary_bufs_sub .., binary_bufs_sub .., unary_bufs_sub .., nullary_bufs_sub .., unary_bufs_sub .., binary_bufs_sub .., nullary_bufs_sub .., unary_bufs_sub .., binary_bufs_sub .., ternary_bufs_sub .., unary_bufs_sub .., nullary_bufs_sub .., nullary_bufs_sub .., unary_bufs_sub .., binary_bufs_sub .., unary_bufs_sub .., unary_bufs_sub .., binary_bufs_sub .., binary_bufs_sub .., nullary_bufs_sub .., binary_bufs_sub .., binary_bufs_sub .., unary_bufs_sub .., nullary_bufs_sub .., unary_bufs_sub .., ternary_bufs_sub ..⟩

theorem arg0_eq (V : Valuation τ sig (Elt F)) : after ops V (main_arg0 : DevRef τ sig) = V (main_arg0 : DevRef τ sig) := by
  after_results_simp

end Cert.ReferenceIdeal.Run

end
-- ==== Proof.RefValue.lean ====
/-
  The reference's value over the extended reals: sixteen evenly spaced positions of sixty-four frames, each cut down to
  an integer, and the frames at them.
-/
module

public import proofs.«01_k».proof.Proof.RefRun
public import Idealize.ShloMosaic.Lib.ValueIdx
public import Idealize.ShloMosaic.Lib.IdealHost
public import Idealize.ShloMosaic.Lib.Pointwise

@[expose] public section

set_option maxRecDepth 16384

noncomputable section

namespace Cert.ReferenceIdeal.Run

open Cert.ReferenceIdeal Cert.ReferenceIdeal.Gen
open Idealize.ShloMosaic Idealize.ShloMosaic.TcCoe Idealize.ShloMosaic.StableHlo Idealize.ShloMosaic.ValueIdx Idealize.SL.Sem

variable {F : FTy → Type} [FloatOps F]

/-- The fraction of the way each of the first fifteen positions is. -/
def frac : S15.Idx → Elt F .f32 :=
  Host.divf (sitofp (F := F) .f32 (iotaInDim S15 32 0)) (broadcastInDim S15 ![] bcast_S_S15 (constant S_ .f32 0x41700000#32))

/-- The first fifteen positions. -/
def spread : S15.Idx → Elt F .f32 :=
  addf
    (mulf (broadcastInDim S15 ![0] bcast_S1_S15_0 (shapeCast S1 (sitofp .f32 (constantI S_ 32 0#32) : S_.Idx → Elt F .f32) shapeCasts_S_S1))
      (subf (broadcastInDim S15 ![] bcast_S_S15 (constant S_ .f32 0x3F800000#32)) (frac (F := F))))
    (mulf (broadcastInDim S15 ![0] bcast_S1_S15_0 (shapeCast S1 (sitofp .f32 (constantI S_ 32 63#32) : S_.Idx → Elt F .f32) shapeCasts_S_S1)) frac)

/-- The sixteen positions, as integers. -/
def positions : S16.Idx → Elt F .i32 :=
  fptosi 32 (concatenate S16 0 [⟨S15, spread (F := F)⟩, ⟨S1, broadcastInDim S1 ![] bcast_S_S1 (sitofp .f32 (constantI S_ 32 63#32))⟩] concatenates_S15_S1_S16_d0)

/-- A position below zero counted from the end. -/
def wrapped (p : S16.Idx → Elt F .i32) : S16x1.Idx → Elt F .i32 :=
  broadcastInDim S16x1 ![0] bcast_S16_S16x1_0
    (select (cmpi .slt p (broadcastInDim S16 ![] bcast_S_S16 (constantI S_ 32 0#32)))
      (addi p (broadcastInDim S16 ![] bcast_S_S16 (constantI S_ 32 64#32))) p)

/-- Whether each position names a frame. -/
def inside (p : S16.Idx → Elt F .i32) : S16.Idx → Elt F .i1 :=
  Host.reduce IntOp.andi
    (andi (cmpi .sge (wrapped (F := F) p) (broadcastInDim S16x1 ![] bcast_S_S16x1 (constantI S_ 32 0#32)))
      (cmpi .sle (wrapped (F := F) p) (broadcastInDim S16x1 ![0, 1] bcast_S1x1_S16x1_0_1 (broadcastInDim S1x1 ![1] bcast_S1_S1x1_1 (constantI S1 32 63#32)))))
    (constantI S_ 1 1#1) reducesTo_S16x1_S16_d1 h_S_

/-- The frames at the positions. -/
def taken (x : S3x64x256x256.Idx → Elt F .f32) (p : S16.Idx → Elt F .i32) : S3x16x256x256.Idx → Elt F .f32 :=
  select (broadcastInDim S3x16x256x256 ![1] bcast_S16_S3x16x256x256_1 (inside (F := F) p))
    (Host.gather gather_S3x64x256x256_S16x1_S3x16x256x256_023_1_n_n_1_1_31256256 x (wrapped (F := F) p))
    (broadcastInDim S3x16x256x256 ![] bcast_S_S3x16x256x256 (constant S_ .f32 0x7FC00000#32))

theorem v2_eq (V : Valuation τ sig (Elt F)) :
    after ops V (main_v2 : DevRef τ sig) = taken (V (main_arg0 : DevRef τ sig)) (positions (F := F)) := by
  after_results_simp
  rfl

/-- The integers the positions are. -/
def at16 : S16.Idx → BitVec 32 := fun i => BitVec.ofNat 32 (63 * (i 0).val / 15)

private theorem fifteen : Ideal.ofBits .f32 0x41700000#32 = ((15 : ℝ) : EReal) := by
  simp [Ideal.ofBits, Ideal.ieee, -EReal.coe_mul]; norm_num

private theorem whole (n : ℕ) (hn : n < 64) : Scalar.sitofp (F := Ideal) .f32 (BitVec.ofNat 32 n) = ((n : ℝ) : EReal) := by
  have h : (BitVec.ofNat 32 n).toInt = (n : ℤ) := by
    rw [BitVec.toInt_eq_toNat_of_lt (by rw [BitVec.toNat_ofNat]; omega), BitVec.toNat_ofNat]; congr 1; omega
  simp [h]

theorem frac_apply (i : Fin 15) : (frac (F := Ideal)) (ValueIdx.ix1 i) = (((i.val : ℝ) / 15 : ℝ) : EReal) := by
  show Ideal.div (Scalar.sitofp (F := Ideal) .f32 (BitVec.ofNat 32 i.val)) (Ideal.ofBits .f32 0x41700000#32) = _
  rw [whole _ (by omega), fifteen]
  rw [Ideal.div, if_neg (by norm_num), ← EReal.coe_inv, ← EReal.coe_mul, div_eq_mul_inv]

theorem spread_apply (i : Fin 15) : (spread (F := Ideal)) (ValueIdx.ix1 i) = ((63 * (i.val : ℝ) / 15 : ℝ) : EReal) := by
  show Scalar.sitofp (F := Ideal) .f32 (BitVec.ofNat 32 0) * (Ideal.ofBits .f32 0x3F800000#32 - frac (F := Ideal) (ValueIdx.ix1 i))
    + Scalar.sitofp (F := Ideal) .f32 (BitVec.ofNat 32 63) * frac (F := Ideal) (ValueIdx.ix1 i) = _
  rw [whole 0 (by omega), whole 63 (by omega), frac_apply]
  rw [Nat.cast_zero, EReal.coe_zero, zero_mul, zero_add]
  rw [← EReal.coe_mul]
  congr 1
  push_cast
  ring

/-- A position cut down to an integer. -/
private theorem cut (n : ℕ) (hn : n < 16) : Ideal.fptosi 32 ((63 * (n : ℝ) / 15 : ℝ) : EReal) = BitVec.ofNat 32 (63 * n / 15) := by
  have hf : ⌊(63 * (n : ℝ) / 15 : ℝ)⌋ = ((63 * n / 15 : ℕ) : ℤ) := by
    have h1 : ((63 * n / 15 : ℕ) : ℝ) * 15 ≤ 63 * (n : ℝ) := by exact_mod_cast Nat.div_mul_le_self (63 * n) 15
    have h2 : 63 * (n : ℝ) < (((63 * n / 15 : ℕ) : ℝ) + 1) * 15 := by
      exact_mod_cast (show 63 * n < (63 * n / 15 + 1) * 15 by omega)
    rw [Int.floor_eq_iff]
    constructor
    · rw [Int.cast_natCast, le_div_iff₀ (by norm_num)]; exact h1
    · rw [Int.cast_natCast, div_lt_iff₀ (by norm_num)]; exact h2
  rw [Ideal.fptosi, Ideal.toIntClamped_coe, if_pos (by positivity), hf]
  have h1 : 63 * n / 15 < 64 := by omega
  rw [max_eq_right, min_eq_right, BitVec.ofInt_natCast]
  · norm_num; omega
  · rw [min_eq_right] <;> norm_num <;> omega

theorem positions_eq : positions (F := Ideal) = at16 := by
  funext j
  obtain ⟨k, rfl⟩ : ∃ k : Fin 16, j = ValueIdx.ix1 k := ⟨j 0, ValueIdx.eq_ix1 j⟩
  show Ideal.fptosi 32 (concatenate S16 0 [⟨S15, spread (F := Ideal)⟩, ⟨S1, _⟩] concatenates_S15_S1_S16_d0 (ValueIdx.ix1 k)) = BitVec.ofNat 32 (63 * k.val / 15)
  rw [concatenate_pair_apply]
  by_cases h : k.val < 15
  · refine (congrArg (Ideal.fptosi 32) (dif_pos (show (ValueIdx.ix1 k 0 : Fin 16).val < 15 from h))).trans ?_
    show Ideal.fptosi 32 (spread (F := Ideal) (ValueIdx.ix1 (⟨k.val, h⟩ : Fin 15))) = _
    rw [spread_apply]
    exact cut k.val (by omega)
  · refine (congrArg (Ideal.fptosi 32) (dif_neg (show ¬ (ValueIdx.ix1 k 0 : Fin 16).val < 15 from h))).trans ?_
    have hk : k.val = 15 := by omega
    show Ideal.fptosi 32 (Scalar.sitofp (F := Ideal) .f32 (BitVec.ofNat 32 63)) = _
    rw [whole 63 (by omega), hk]
    have := cut 15 (by omega)
    rwa [show (63 * ((15 : ℕ) : ℝ) / 15 : ℝ) = ((63 : ℕ) : ℝ) by norm_num] at this

theorem inside_at16 : inside (F := Ideal) at16 = fun _ => 1#1 := by
  funext j
  obtain ⟨k, rfl⟩ : ∃ k : Fin 16, j = ValueIdx.ix1 k := ⟨j 0, ValueIdx.eq_ix1 j⟩
  revert k
  decide +kernel

theorem wrapped_at16 (k : Fin 16) : (wrapped (F := Ideal) at16 (ValueIdx.ix2 k (0 : Fin 1))).toInt.toNat = 63 * k.val / 15 := by
  revert k
  decide +kernel

/-- The frame each of the sixteen comes from. -/
def source (j : S3x16x256x256.Idx) : S3x64x256x256.Idx := fun a => match a with
  | 0 => ⟨(j 0).val, (j 0).isLt⟩
  | 1 => ⟨63 * (j 1).val / 15, by have h : (j 1).val < 16 := (j 1).isLt; show _ < 64; omega⟩
  | 2 => ⟨(j 2).val, (j 2).isLt⟩
  | 3 => ⟨(j 3).val, (j 3).isLt⟩

theorem gather_at16 (x : S3x64x256x256.Idx → Elt Ideal .f32) (j : S3x16x256x256.Idx) :
    Host.gather gather_S3x64x256x256_S16x1_S3x16x256x256_023_1_n_n_1_1_31256256 x (wrapped (F := Ideal) at16) j = x (source j) := by
  unfold Host.gather
  congr 1
  funext a
  refine Fin.ext ?_
  show GatherDims.start _ j _ a + GatherDims.batchCoord _ j a + GatherDims.offCoord _ j a = _
  rw [GatherDims.batchCoord_eq_zero _ _ _ List.not_mem_nil, Nat.add_zero]
  match a with
  | 0 => rw [GatherDims.start, dif_neg (by decide), Nat.zero_add, GatherDims.offCoord, dif_pos (by decide)]; rfl
  | 2 => rw [GatherDims.start, dif_neg (by decide), Nat.zero_add, GatherDims.offCoord, dif_pos (by decide)]; rfl
  | 3 => rw [GatherDims.start, dif_neg (by decide), Nat.zero_add, GatherDims.offCoord, dif_pos (by decide)]; rfl
  | 1 =>
    rw [GatherDims.offCoord_eq_zero _ _ _ (fun h => ((GatherDims.mem_sKept _ _).mp h).1 (List.mem_singleton.mpr rfl)), Nat.add_zero]
    unfold GatherDims.start
    rw [dif_pos (show (1 : Fin 4) ∈ gather_S3x64x256x256_S16x1_S3x16x256x256_023_1_n_n_1_1_31256256.startIndexMap from List.mem_singleton.mpr rfl)]
    have hsi : GatherDims.siIdx gather_S3x64x256x256_S16x1_S3x16x256x256_023_1_n_n_1_1_31256256 j ⟨List.idxOf (1 : Fin 4) [1],
        List.idxOf_lt_length_iff.2 (List.mem_singleton.mpr rfl)⟩ = ValueIdx.ix2 (⟨(j 1).val, (j 1).isLt⟩ : Fin 16) (0 : Fin 1) := by
      funext b; refine Fin.ext ?_
      match b with
      | ⟨0, _⟩ => rfl
      | ⟨1, _⟩ => rfl
    have hj : (j 1).val < 16 := (j 1).isLt
    have hw : (wrapped (F := Ideal) at16 (GatherDims.siIdx gather_S3x64x256x256_S16x1_S3x16x256x256_023_1_n_n_1_1_31256256 j
        ⟨List.idxOf (1 : Fin 4) [1], List.idxOf_lt_length_iff.2 (List.mem_singleton.mpr rfl)⟩)).toInt.toNat = 63 * (j 1).val / 15 := by
      rw [hsi]; exact wrapped_at16 _
    exact (congrArg (fun n => min n (64 - 1)) hw).trans (show min (63 * (j 1).val / 15) 63 = 63 * (j 1).val / 15 by omega)

theorem v2_value (V : Valuation τ sig (Elt Ideal)) :
    after ops V (main_v2 : DevRef τ sig) = fun j => V (main_arg0 : DevRef τ sig) (source j) := by
  rw [v2_eq, positions_eq]
  funext j
  show (if inside (F := Ideal) at16 _ = 1#1 then _ else _) = _
  rw [inside_at16]
  exact (if_pos rfl).trans (gather_at16 _ j)

end Cert.ReferenceIdeal.Run

end
-- ==== Proof.Value.lean ====
/-
  The kernel's value over the extended reals: adding the empty probe changes nothing, and each group's frame is the one
  the reference takes.
-/
module

public import proofs.«01_k».proof.Proof.Run
public import proofs.«01_k».proof.Proof.RefValue

@[expose] public section

set_option maxRecDepth 16384

noncomputable section

namespace Cert.KernelIdeal.Run

open Cert.KernelIdeal Cert.KernelIdeal.Gen
open Idealize.ShloMosaic Idealize.ShloMosaic.TcCoe Idealize.SL.Sem

/-- The probe is zero. -/
theorem probe_zero (o : S768x4096.Idx → Elt Ideal .f32) : probe (F := Ideal) o = fun _ => (0 : EReal) := by
  funext j
  show (_ : EReal) * Ideal.ofBits .f32 0x00000000#32 = 0
  rw [Ideal.ofBits_zero_f32, mul_zero]

/-- Adding zeros at some places changes no place. -/
theorem scatter_zero (s : S3x16x256x256.Idx → Elt Ideal .f32) (i : Cert.KernelIdeal.S4.Idx → Elt Ideal .i32) :
    Host.scatter scatter_S3x16x256x256_S4_S__n_0123_0123_0 (FloatOps.addf (F := Ideal) (φ := .f32)) s i (fun _ => (0 : EReal)) = s := by
  unfold Host.scatter
  refine List.foldlRecOn (motive := fun r => r = s) _ _ rfl fun r hr k _ => ?_
  subst hr
  dsimp only
  split
  · funext q
    split
    · next h => subst h; exact add_zero (r q : EReal)
    · rfl
  · rfl

theorem final_eq (s : S3x16x256x256.Idx → Elt Ideal .f32) (o : S768x4096.Idx → Elt Ideal .f32) : finalSlow s o = s := by
  unfold finalSlow
  rw [probe_zero]
  exact scatter_zero s _

/-- The frame the table points at. -/
theorem tab_frame (k : Fin 16) : 4 * k.val + ((tab (F := Ideal)) (ix1 k)).toNat % 4 = 63 * k.val / 15 := by
  revert k
  decide +kernel

variable (m : (ℓ : Loc nD τ sig) → Buf (Elt Ideal) ℓ)

theorem slow_eq (d : Dev nD) : slowOf (entry m d) = fun j => (entry m d).x (Cert.ReferenceIdeal.Run.source j) := by
  funext j
  unfold slowOf
  congr 1
  funext a
  match a with
  | 0 => rfl
  | 1 => exact Fin.ext (tab_frame (j 1))
  | 2 => rfl
  | 3 => rfl

end Cert.KernelIdeal.Run

end
-- ==== Proof.Verb.Base.lean ====
/-
  What every part of the proof of the kernel's run shares: the program as the SparseCore launch theorem sees it, the
  ghost components (the handshakes' rounds, the staging pipeline's rounds, the transfers' counters), and the names of
  the HBM buffers the two kernels work on.
-/
module

public import proofs.«01_k».proof.Defs
public import Idealize.ShloMosaic.Lib.SparseCore.Quiescent
public import Idealize.ShloMosaic.Lib.SparseCore.Ops
public import Idealize.ShloMosaic.Lib.StableHlo.Run
public import Idealize.ShloMosaic.Lib.Pipeline.Kit
public import Idealize.ShloMosaic.Lib.Pipeline.Regions
public import Idealize.ShloMosaic.Lib.Pipeline.FrameBody
public import Idealize.ShloMosaic.Lib.Ring
public import Idealize.ShloMosaic.Lib.Tactic
public import proofs.«01_k».proof.Proof.Gen.VerbatimIdeal
public import proofs.«01_k».proof.Proof.Gen.VerbatimIdeal.Skeleton
public import proofs.«01_k».proof.Proof.Gen.VerbatimIdeal.Launch

@[expose] public section

noncomputable section

namespace Cert.VerbatimIdeal.Run

open Cert.VerbatimIdeal Cert.VerbatimIdeal.Gen
open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- The labels of the staging pipeline's program: its bodies and its one entry. -/
abbrev ΛP : Labels := Pipeline.Sig Λ₀ (Fin 1) fun p => (pcfgs (F := F) p).Adm
/-- The SparseCore launch configuration. -/
abbrev K : SparseCore.Cfg τ sig (ΛP (F := F)) 1 := sc (F := F)
/-- The program's definitions below the SparseCore launches. -/
abbrev D : Defs nD τ sig (Elt F) (ΛP (F := F)) := Pipeline.defs pcfgs defs₀
/-- The kernels' own functions call nothing. -/
abbrev 𝒱₀ : Variants := Variants.none
abbrev 𝒱 : Variants := 𝒱₀.lift
abbrev v₀ : 𝒱.V := Sum.inl none

theorem scFacts : (K (F := F)).Facts where
  start_ne_taskDone := show sc_start ≠ sc_taskDone by decide
  start_unscoped := show (SemLoc.reg sc_start : SemLoc sig).isScoped .scScalar = false by decide
  taskDone_unscoped := show (SemLoc.reg sc_taskDone : SemLoc sig).isScoped .scScalar = false by decide
  go_unscoped := show (SemLoc.reg sc_go : SemLoc sig).isScoped .scVector = false by decide
  done_unscoped := show (SemLoc.reg sc_done : SemLoc sig).isScoped .tc = false by decide
  noTaskShared := show ∀ (b : DevRef τ sig) (c : Fin τ.nSC), b.owner = .sc c → sig.taskShared b.table b.idx = false by decide
  noSeq := fun _ => rfl

/-- The handshakes' rounds, the staging pipeline's rounds, the local transfers' counters. -/
abbrev UH : Type := URounds (GSem nD τ sig) ℕ
abbrev UR : Type := URounds (GSem nD τ sig) Unit
abbrev UU : Type := UH × UR × Counters

local notation "𝕄" => MT nD τ sig (HIx 1) (Elt F) ℕ UU ℕ

abbrev EH : Emb UH (MT nD τ sig (HIx 1) (Elt F) ℕ UU ℕ) := embL
/-- The pipeline's rounds sit in the middle component. -/
def EP : Emb UR (MT nD τ sig (HIx 1) (Elt F) ℕ UU ℕ) := (Emb.inl : Emb UR (UR × Counters)).trans embR
instance EP_landsIn : (EP : Emb UR 𝕄).LandsIn (upEmb : UEmb _ 𝕄) := by unfold EP; infer_instance

/-- The TensorCore's names of the HBM buffers the SparseCore kernel copies between. -/
abbrev xLoc (d : Dev nD) : Loc nD τ sig := (SparseCore.T d).loc main_v8
abbrev oLoc (d : Dev nD) : Loc nD τ sig := (SparseCore.T d).loc main_v9

end Cert.VerbatimIdeal.Run

end
-- ==== Proof.Verb.Body.lean ====
/-
  The staged copy's body, run once at a symbolic grid point: it copies the block of four frames to the fast output
  and the frame the table's word names to the slow output. The post says so at the block, not as a list of stores.
-/
module

public import proofs.«01_k».proof.Proof.Verb.Base
public import Idealize.ShloMosaic.Lib.VecWindow

@[expose] public section

set_option maxRecDepth 16384

noncomputable section

namespace Cert.VerbatimIdeal.Run

open Cert.VerbatimIdeal Cert.VerbatimIdeal.Gen
open Idealize.ShloMosaic Idealize.ShloMosaic.TcCoe
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

/-- The prefetched table of frame offsets, as the body addresses it. -/
abbrev tbM : Memref sig .tc .smem S16 .i32 := Memref.whole main_v5
abbrev htbM : tbM.IsWhole := Memref.isWhole_whole _
abbrev TbBuf (c : Dev nD) {S : Shape} {e : EltTy} (M : Memref sig .tc .smem S e) : Type := Buf (Elt F) (M.view.loc (c.tc : Thread nD τ))
abbrev tbPt (c : Dev nD) {S : Shape} {e : EltTy} (M : Memref sig .tc .smem S e) (f : TbBuf (F := F) c M) : sProp 𝕄 :=
  M.view.loc (c.tc : Thread nD τ) ↦{fullShare} f

/-- The table's word at a grid point. -/
abbrev wordAt (i : grid0.Coords) (xt : S16.Idx → Elt F .i32) : Elt F .i32 :=
  tbM.view.readAt (Elt F) (Rect.unit (s := S16) (k0_off1 i) S1.size (k0_off1_inb i)).toLoadRect xt (Shape.Idx.first (numel1_S1.symm ▸ Nat.one_pos))

/-- The frame a word names inside a block of four. -/
def pick (x : Vec F S1x4x256x256 .f32) (w : Elt F .i32) (h : k0_chk1 w) : Vec F S1x1x256x256 .f32 :=
  fun j => x ((Rect.unit (s := S1x4x256x256) (k0_off2 w) S1x1x256x256.size (k0_off2_inb w h)).emb j)

set_option maxHeartbeats 1000000 in
/-- The body's run, with the stores it makes in each output found by running it. -/
noncomputable def bodyRun (c : Dev nD) (i : grid0.Coords) (arg3 : Memref sig .tc .vmem S1x4x256x256 .f32) (harg3 : arg3.IsWhole)
    (arg4 : Memref sig .tc .vmem S1x1x256x256 .f32) (harg4 : arg4.IsWhole) (arg5 : Memref sig .tc .vmem S1x4x256x256 .f32) (harg5 : arg5.IsWhole)
    (x0 : Vec F S1x4x256x256 .f32) (xt0 : TbBuf (F := F) c tbM) (k0_hw1 : k0_chk1 (wordAt (F := F) i xt0)) :
    Σ' (L1 : List (View.Piece (Elt F) S1x1x256x256 .f32)), { L2 : List (View.Piece (Elt F) S1x4x256x256 .f32) //
      ∀ (E : Set ℕ) (Q : PUnit → sProp 𝕄),
        iprop(owns (c.tc : Thread nD τ) arg3 fullShare x0 ∗ (∃ d, owns (c.tc : Thread nD τ) arg4 fullShare d)
            ∗ (∃ d, owns (c.tc : Thread nD τ) arg5 fullShare d) ∗ tbPt c tbM xt0
            ∗ (iprop(owns (c.tc : Thread nD τ) arg3 fullShare x0
                ∗ (∃ f, arg4.view.loc (c.tc : Thread nD τ) ↦[arg4.view.set]{fullShare} arg4.view.writes (Elt F) f L1)
                ∗ (∃ f, arg5.view.loc (c.tc : Thread nD τ) ↦[arg5.view.set]{fullShare} arg5.view.writes (Elt F) f L2) ∗ tbPt c tbM xt0) -∗ Q ⟨⟩))
          ⊢ wp frame (wpE (defs₀ (F := F)) 𝒱₀ c none) E (cc0__pack_body i tbM htbM arg3 harg3 arg4 harg4 arg5 harg5) Q } := by
  refine ⟨?_, ?_, fun E Q => ?run⟩
  case run =>
    simp only [cc0__pack_body_eq_skeleton]; unfold cc0__pack_body_skel
    unfold owns
    iintro ⟨⟨%f0, %hf0, H0⟩, ⟨%d1, %f1, -, H1⟩, ⟨%d2, %f2, -, H2⟩, HT0, Hk⟩
    obtain rfl := harg3.eq_unread hf0
    sl_exec (disch := first | sl_exact k0_hw1)
    sl_step
    iapply Hk
    isplitl [H0]
    · iexists _; isplitr; · ipureintro; exact harg3.read_unread _
      iexact H0
    isplitl [H1]; · iexists _; iexact H1
    isplitl [H2]; · iexists _; iexact H2
    iexact HT0

variable (c : Dev nD) (i : grid0.Coords) (arg3 : Memref sig .tc .vmem S1x4x256x256 .f32) (harg3 : arg3.IsWhole)
    (arg4 : Memref sig .tc .vmem S1x1x256x256 .f32) (harg4 : arg4.IsWhole) (arg5 : Memref sig .tc .vmem S1x4x256x256 .f32) (harg5 : arg5.IsWhole)
    (x0 : Vec F S1x4x256x256 .f32) (xt0 : TbBuf (F := F) c tbM) (k0_hw1 : k0_chk1 (wordAt (F := F) i xt0))

theorem slow_read (f : BufTy.Contents (Elt F) arg4.view.ty) :
    arg4.view.read (Elt F) (arg4.view.writes (Elt F) f (bodyRun c i arg3 harg3 arg4 harg4 arg5 harg5 x0 xt0 k0_hw1).1) = pick x0 (wordAt (F := F) i xt0) k0_hw1 := by
  dsimp only [bodyRun]
  refine (View.read_writes_full _ _ _ _ _).trans ?_
  funext j
  exact congrFun (harg3.read_unread x0) ((Rect.unit (s := S1x4x256x256) (k0_off2 (wordAt (F := F) i xt0)) S1x1x256x256.size (k0_off2_inb _ k0_hw1)).emb j)

theorem fast_read (f : BufTy.Contents (Elt F) arg5.view.ty) :
    arg5.view.read (Elt F) (arg5.view.writes (Elt F) f (bodyRun c i arg3 harg3 arg4 harg4 arg5 harg5 x0 xt0 k0_hw1).2.1) = x0 := by
  dsimp only [bodyRun]
  refine (View.read_writes_full _ _ _ _ _).trans ?_
  exact (View.readAt_full _ _ _).trans (harg3.read_unread x0)

theorem body_run (E : Set ℕ) (Q : PUnit → sProp 𝕄) :
    iprop(owns (c.tc : Thread nD τ) arg3 fullShare x0 ∗ (∃ d, owns (c.tc : Thread nD τ) arg4 fullShare d)
        ∗ (∃ d, owns (c.tc : Thread nD τ) arg5 fullShare d) ∗ tbPt c tbM xt0
        ∗ (iprop(owns (c.tc : Thread nD τ) arg3 fullShare x0 ∗ owns (c.tc : Thread nD τ) arg4 fullShare (pick x0 (wordAt (F := F) i xt0) k0_hw1)
            ∗ owns (c.tc : Thread nD τ) arg5 fullShare x0 ∗ tbPt c tbM xt0) -∗ Q ⟨⟩))
      ⊢ wp frame (wpE (defs₀ (F := F)) 𝒱₀ c none) E (cc0__pack_body i tbM htbM arg3 harg3 arg4 harg4 arg5 harg5) Q := by
  iintro ⟨H0, H1, H2, HT, Hk⟩
  iapply ((bodyRun c i arg3 harg3 arg4 harg4 arg5 harg5 x0 xt0 k0_hw1).2.2 E Q)
  isplitl [H0]; · iexact H0
  isplitl [H1]; · iexact H1
  isplitl [H2]; · iexact H2
  isplitl [HT]; · iexact HT
  iintro ⟨H0, ⟨%f1, H1⟩, ⟨%f2, H2⟩, HT⟩
  iapply Hk
  isplitl [H0]; · iexact H0
  isplitl [H1]
  · unfold owns
    iexists (arg4.view.writes (Elt F) f1 (bodyRun c i arg3 harg3 arg4 harg4 arg5 harg5 x0 xt0 k0_hw1).1)
    isplitr; · ipureintro; exact slow_read c i arg3 harg3 arg4 harg4 arg5 harg5 x0 xt0 k0_hw1 f1
    iexact H1
  isplitl [H2]
  · unfold owns
    iexists (arg5.view.writes (Elt F) f2 (bodyRun c i arg3 harg3 arg4 harg4 arg5 harg5 x0 xt0 k0_hw1).2.1)
    isplitr; · ipureintro; exact fast_read c i arg3 harg3 arg4 harg4 arg5 harg5 x0 xt0 k0_hw1 f2
    iexact H2
  iexact HT

end Cert.VerbatimIdeal.Run

end
-- ==== Proof.Verb.Region.lean ====
/-
  The staged copy as a region of @main: its proof data over the memory it is entered with, and the rule that runs it.
  The slow output ends at the frames the table's words name, the fast output at the frames themselves.
-/
module

public import proofs.«01_k».proof.Proof.Verb.Body
public import Idealize.ShloMosaic.Lib.Pipeline.Value
public import Idealize.ShloMosaic.Lib.Pipeline.ValueKit

@[expose] public section

set_option maxRecDepth 16384

noncomputable section

namespace Cert.VerbatimIdeal.Run

open Cert.VerbatimIdeal Cert.VerbatimIdeal.Gen
open Idealize.ShloMosaic Idealize.ShloMosaic.TcCoe
open Idealize.ShloMosaic.SparseCore.Cfg (HIx)
open Idealize.ShloMosaic.Pipeline (Dat Cfg Window BodyObligation)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

/-- What the region is entered with: the frames, the two outputs' arrays, and the table. -/
structure Entry (F : FTy → Type) where
  x : S3x64x256x256.Idx → Elt F .f32
  o1 : S3x16x256x256.Idx → Elt F .f32
  o2 : S3x64x256x256.Idx → Elt F .f32
  tb : S16.Idx → Elt F .i32
  ok : ∀ i : grid0.Coords, k0_chk1 (wordAt (F := F) i tb)

variable (e : Entry F)

abbrev tbl : pre0.Contents (Elt F) := fun | 0 => e.tb | ⟨_ + 1, h⟩ => absurd h (Nat.not_lt.2 (Nat.le_add_left _ _))
abbrev adm : Dev nD → (p : Fin 1) → (pcfgs (F := F) p).Adm := fun _ _ => ⟨tbl e, trivial⟩
abbrev cfgM : Pipeline.Cfg sig Λ₀ := cfg0 (F := F) ⟨tbl e, trivial⟩

/-- The arrays at entry. -/
def arrs (c : Dev nD) : (w : Fin (cfgM e).W) → Buf (Elt F) (((cfgM e).win w).arr.view.loc (c.tc : Thread nD τ))
  | 0 => e.x
  | 1 => e.o1
  | 2 => e.o2
  | ⟨_ + 3, h⟩ => absurd h (Nat.not_lt.2 (Nat.le_add_left _ _))

/-- The block of four frames a point works on. -/
def iblk (t : Fin grid0.N) : Vec F S1x4x256x256 .f32 :=
  (((cfgM e).win 0).blk t).view.read (Elt F) e.x

def afterW (c : Dev nD) : (w : Fin (cfgM e).W) → (t : Fin (cfgM e).N) → ((cfgM e).win w).block.Idx → Elt F ((cfgM e).win w).elt
  | 0 => fun t => iblk e t
  | 1 => fun t => pick (iblk e t) (wordAt (F := F) (grid0.coords t) e.tb) (e.ok _)
  | 2 => fun t => iblk e t
  | ⟨_ + 3, h⟩ => absurd h (Nat.not_lt.2 (Nat.le_add_left _ _))

/-- The region's proof data. What the core owes is what it owes before the SparseCore launch, and its recorded
    waits stay those no handshake counts. -/
def dats : (p : Fin 1) → (c : Dev nD) → Dat τ (Elt F) (HIx 1) ℕ UU ℕ (Pipeline.pinD pcfgs (adm e) c p) c := fun _ c => {
  A := arrs e c
  after := afterW e c
  Φ := fun _ => tbPt c tbM e.tb
  q := fun _ => fullShare
  owed := fun _ => (K (F := F)).Otc c 0
  recorded := fun _ => {p | p.2 = none} }

theorem dats_after0 (c : Dev nD) (t : Fin (cfgM e).N) : (dats e 0 c).after 0 t = iblk e t := rfl
theorem dats_after1 (c : Dev nD) (t : Fin (cfgM e).N) :
    (dats e 0 c).after 1 t = pick (iblk e t) (wordAt (F := F) (grid0.coords t) e.tb) (e.ok _) := rfl
theorem dats_after2 (c : Dev nD) (t : Fin (cfgM e).N) : (dats e 0 c).after 2 t = iblk e t := rfl

theorem before0 (c : Dev nD) (t : Fin (cfgM e).N) (d) : (dats e 0 c).before 0 t d = iblk e t :=
  ((dats e 0 c).before_in_eq_fetched 0 rfl (fun _ => rfl) (fun _ _ _ => rfl) (fun _ => rfl) t d).trans rfl

abbrev ms0 (t : Fin (cfgM e).N) : Memref sig .tc .vmem S1x4x256x256 .f32 := spec0_0.stage ((cfgM e).slots t 0)
abbrev ms1 (t : Fin (cfgM e).N) : Memref sig .tc .vmem S1x1x256x256 .f32 := spec0_1.stage ((cfgM e).slots t 1)
abbrev ms2 (t : Fin (cfgM e).N) : Memref sig .tc .vmem S1x4x256x256 .f32 := spec0_2.stage ((cfgM e).slots t 2)

def bodyPre (c : Dev nD) (t : Fin (cfgM e).N) : sProp 𝕄 :=
  iprop((dats e 0 c).Φ t.castSucc ∗ (dats e 0 c).owesAt none t.castSucc
    ∗ (∃ d, owns (c.tc : Thread nD τ) (ms0 e t) fullShare ((dats e 0 c).before 0 t d))
    ∗ (∃ d, owns (c.tc : Thread nD τ) (ms1 e t) fullShare ((dats e 0 c).before 1 t d))
    ∗ (∃ d, owns (c.tc : Thread nD τ) (ms2 e t) fullShare ((dats e 0 c).before 2 t d)))
def bodyPost (c : Dev nD) (t : Fin (cfgM e).N) : sProp 𝕄 :=
  iprop((dats e 0 c).Φ t.succ ∗ (dats e 0 c).owesAt none t.succ
    ∗ owns (c.tc : Thread nD τ) (ms0 e t) fullShare ((dats e 0 c).after 0 t)
    ∗ owns (c.tc : Thread nD τ) (ms1 e t) fullShare ((dats e 0 c).after 1 t)
    ∗ owns (c.tc : Thread nD τ) (ms2 e t) fullShare ((dats e 0 c).after 2 t))

theorem sound_body (c : Dev nD) (t : Fin (cfgM e).N) :
    bodyPre e c t ⊢ wp frame (wpE (defs₀ (F := F)) 𝒱₀ c none) Set.univ
      (cc0__pack_body (grid0.coords t) tbM htbM (ms0 e t) (hstage0_0 (((cfgM e).slots t 0).cast nbuf0_0))
        (ms1 e t) (hstage0_1 (((cfgM e).slots t 1).cast nbuf0_1)) (ms2 e t) (hstage0_2 (((cfgM e).slots t 2).cast nbuf0_2)))
      (fun _ => bodyPost e c t) := by
  unfold bodyPre bodyPost
  simp only [before0]
  rw [show (dats e 0 c).Φ t.succ = tbPt c tbM e.tb from rfl, show (dats e 0 c).Φ t.castSucc = tbPt c tbM e.tb from rfl,
    show (dats e 0 c).owesAt none t.succ = (dats e 0 c).owesAt none t.castSucc from rfl,
    dats_after0, dats_after1, dats_after2]
  iintro ⟨HT, Ho, ⟨%d0, H0⟩, ⟨%d1, H1⟩, ⟨%d2, H2⟩⟩
  iapply (body_run c (grid0.coords t) (ms0 e t) (hstage0_0 (((cfgM e).slots t 0).cast nbuf0_0))
        (ms1 e t) (hstage0_1 (((cfgM e).slots t 1).cast nbuf0_1)) (ms2 e t) (hstage0_2 (((cfgM e).slots t 2).cast nbuf0_2))
        (iblk e t) e.tb (e.ok (grid0.coords t)) Set.univ _)
  isplitl [H0]; · iexact H0
  isplitl [H1]; · iexists _; iexact H1
  isplitl [H2]; · iexists _; iexact H2
  isplitl [HT]; · iexact HT
  iintro ⟨H0, H1, H2, HT⟩
  isplitl [HT]; · iexact HT
  isplitl [Ho]; · iexact Ho
  isplitl [H0]; · iexact H0
  isplitl [H1]; · iexact H1
  iexact H2

theorem body_obligation (c : Dev nD) : BodyObligation (dats e 0 c) (defs₀ (F := F)) 𝒱₀ none Set.univ := fun t => by
  rw [bigSep_W0, bigSep_W0]
  exact triple_restated (sound_body e c t) rfl .rfl fun _ => .rfl

/-! ## What the outputs end holding -/

/-- The frame of its group of four that a slow output's frame is. -/
def slowOf : S3x16x256x256.Idx → Elt F .f32 := fun j =>
  e.x (fun a => match a with
    | 0 => ⟨(j 0).val, (j 0).isLt⟩
    | 1 => ⟨4 * (j 1).val + (e.tb (ix1 (j 1))).toNat % 4, by have h1 : (j 1).val < 16 := (j 1).isLt; show _ < 64; omega⟩
    | 2 => ⟨(j 2).val, (j 2).isLt⟩
    | 3 => ⟨(j 3).val, (j 3).isLt⟩)

/-- The outputs' blocks cover their arrays, whatever the scalars: decided at one instance. -/
theorem covers1 : ((cfgM e).win 1).Covers :=
  show ((cfg0 (F := Ideal) ⟨fun | 0 => fun _ => (0#32 : BitVec 32) | ⟨_ + 1, h⟩ => absurd h (Nat.not_lt.2 (Nat.le_add_left _ _)), trivial⟩).win 1).Covers from by decide +kernel
theorem covers2 : ((cfgM e).win 2).Covers :=
  show ((cfg0 (F := Ideal) ⟨fun | 0 => fun _ => (0#32 : BitVec 32) | ⟨_ + 1, h⟩ => absurd h (Nat.not_lt.2 (Nat.le_add_left _ _)), trivial⟩).win 2).Covers from by decide +kernel

theorem fast_final (c : Dev nD) : (dats e 0 c).arrAt 2 (cfgM e).N = e.x := by
  refine (dats e 0 c).arrAt_eq_of_covers 2 _ (covers2 e) fun t hf y => ?_
  blk_simp
  rw [dats_after2]
  rfl

theorem chk_lt (w : Elt F .i32) (h : k0_chk1 w) : (Scalar.indexCast w).toNat < 4 := by
  have := h 1
  simp [k0_off2] at this
  omega

theorem coord_lt (i : grid0.Coords) : (i 0).val < 3 ∧ (i 1).val < 16 := ⟨(i 0).isLt, (i 1).isLt⟩

theorem t0_eq (i : grid0.Coords) : cc0_transform_0 i = ![(i 0).val, (i 1).val, 0, 0] := by
  have h := coord_lt i
  unfold cc0_transform_0
  simp only [BitVec.toNat_ofNat]
  rw [Nat.mod_eq_of_lt (by omega), Nat.mod_eq_of_lt (by omega)]
theorem t1_eq (i : grid0.Coords) : cc0_transform_1 i = ![(i 0).val, (i 1).val, 0, 0] := by
  have h := coord_lt i
  unfold cc0_transform_1
  simp only [BitVec.toNat_ofNat]
  rw [Nat.mod_eq_of_lt (by omega), Nat.mod_eq_of_lt (by omega)]

theorem emb0 (t : Fin (cfgM e).N) (z : S1x4x256x256.Idx) (a : Fin 4) :
    ((((cfgM e).win 0).blk t).view.emb z a).val = (![(grid0.coords t 0).val, (grid0.coords t 1).val, 0, 0] : Fin 4 → Nat) a * S1x4x256x256.size a + 1 * (z a).val := by
  rw [← t0_eq]; rfl
theorem emb1 (t : Fin (cfgM e).N) (z : S1x1x256x256.Idx) (a : Fin 4) :
    ((((cfgM e).win 1).blk t).view.emb z a).val = (![(grid0.coords t 0).val, (grid0.coords t 1).val, 0, 0] : Fin 4 → Nat) a * S1x1x256x256.size a + 1 * (z a).val := by
  rw [← t1_eq]; rfl

theorem wordAt_eq (i : grid0.Coords) (xt : S16.Idx → Elt F .i32) : wordAt (F := F) i xt = xt (ix1 (i 1)) := by
  show xt _ = xt _
  congr 1
  funext a
  match a with
  | ⟨0, _⟩ =>
    apply Fin.ext
    show k0_off1 i 0 + 1 * 0 = (i 1).val
    rw [k0_off1_eq]
    rfl

/-- Where a point's block of the slow output sits in it. -/
abbrev at1 (t : Fin (cfgM e).N) (y : S1x1x256x256.Idx) : S3x16x256x256.Idx := (((cfgM e).win 1).blk t).view.emb y

theorem slow_block (t : Fin (cfgM e).N) (y : S1x1x256x256.Idx) :
    pick (iblk e t) (wordAt (F := F) (grid0.coords t) e.tb) (e.ok _) y = slowOf e (at1 e t y) := by
  have hw := chk_lt _ (e.ok (grid0.coords t))
  have y0 : (y 0).val < 1 := (y 0).isLt
  have y1 : (y 1).val < 1 := (y 1).isLt
  have hs : (ix1 (at1 e t y 1) : S16.Idx) = ix1 (grid0.coords t 1) := by
    funext a
    match a with
    | ⟨0, _⟩ =>
      apply Fin.ext
      refine (emb1 e t y 1).trans ?_
      show (grid0.coords t 1).val * 1 + 1 * (y 1).val = (grid0.coords t 1).val
      omega
  show e.x _ = e.x _
  congr 1
  funext a
  apply Fin.ext
  refine (emb0 e t _ a).trans ?_
  match a with
  | ⟨0, _⟩ =>
    refine Eq.trans ?_ (emb1 e t y 0).symm
    show (grid0.coords t 0).val * 1 + 1 * (0 + 1 * (y 0).val) = (grid0.coords t 0).val * 1 + 1 * (y 0).val
    omega
  | ⟨1, _⟩ =>
    show (grid0.coords t 1).val * 4 + 1 * ((Scalar.indexCast (wordAt (F := F) (grid0.coords t) e.tb)).toNat + 1 * (y 1).val)
      = 4 * (at1 e t y 1).val + (e.tb (ix1 (at1 e t y 1))).toNat % 4
    rw [hs, emb1 e t y 1]
    refine Eq.trans ?_ (congrArg (fun w : Elt F .i32 => 4 * ((grid0.coords t 1).val * 1 + 1 * (y 1).val) + (Scalar.indexCast w).toNat % 4) (wordAt_eq (F := F) (grid0.coords t) e.tb))
    show (grid0.coords t 1).val * 4 + 1 * ((Scalar.indexCast (wordAt (F := F) (grid0.coords t) e.tb)).toNat + 1 * (y 1).val)
      = 4 * ((grid0.coords t 1).val * 1 + 1 * (y 1).val) + (Scalar.indexCast (wordAt (F := F) (grid0.coords t) e.tb)).toNat % 4
    omega
  | ⟨2, _⟩ =>
    refine Eq.trans ?_ (emb1 e t y 2).symm
    show 0 * 256 + 1 * (0 + 1 * (y 2).val) = 0 * 256 + 1 * (y 2).val
    omega
  | ⟨3, _⟩ =>
    refine Eq.trans ?_ (emb1 e t y 3).symm
    show 0 * 256 + 1 * (0 + 1 * (y 3).val) = 0 * 256 + 1 * (y 3).val
    omega

theorem slow_final (c : Dev nD) : (dats e 0 c).arrAt 1 (cfgM e).N = slowOf e := by
  refine (dats e 0 c).arrAt_eq_of_covers 1 _ (covers1 e) fun t hf y => ?_
  blk_simp
  rw [dats_after1]
  exact slow_block e t y

end Cert.VerbatimIdeal.Run

end
-- ==== Proof.Verb.Seg.lean ====
/-
  The staged copy's region inside @main: its entry from and exit to the buffers it works on, and the rule for its call.
-/
module

public import proofs.«01_k».proof.Proof.Verb.Region

@[expose] public section

set_option maxRecDepth 16384

noncomputable section

namespace Cert.VerbatimIdeal.Run

open Cert.VerbatimIdeal Cert.VerbatimIdeal.Gen
open Idealize.ShloMosaic Idealize.ShloMosaic.TcCoe
open Idealize.ShloMosaic.SparseCore.Cfg (HIx)
open Idealize.ShloMosaic.Pipeline (Dat Cfg Window BodyObligation)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

variable (e : Entry F)

/-- What the core owes before the SparseCore launch, its recorded waits none a handshake counts. -/
abbrev owed0 (c : Dev nD) : sProp 𝕄 :=
  iprop(∃ W, ⌜(K (F := F)).WBelow (SparseCore.T c) W 0⌝ ∗ owes (SparseCore.T c) ((K (F := F)).Otc c 0) W)

/-- The four buffers the region works on, the outputs at given contents. -/
abbrev four (c : Dev nD) (o1 : S3x16x256x256.Idx → Elt F .f32) (o2 : S3x64x256x256.Idx → Elt F .f32) : sProp 𝕄 :=
  iprop(((SparseCore.T c : Thread nD τ).loc main_arg0 ↦{fullShare} e.x) ∗ ((SparseCore.T c : Thread nD τ).loc main_v6_0 ↦{fullShare} o1)
    ∗ ((SparseCore.T c : Thread nD τ).loc main_v6_1 ↦{fullShare} o2) ∗ ((SparseCore.T c : Thread nD τ).loc main_v5 ↦{fullShare} e.tb))

theorem set_arr (w : Fin 3) : (spec0 w).arr.view.set = Finset.univ := (arr_whole0 w).set_eq_univ

theorem arrays_eq (c : Dev nD) (G : (w : Fin (cfgM e).W) → Buf (Elt F) (((cfgM e).win w).arr.view.loc (c.tc : Thread nD τ))) :
    ((dats e 0 c).arrays G : sProp 𝕄)
      = iprop(((SparseCore.T c : Thread nD τ).loc main_arg0 ↦{fullShare} G 0) ∗ ((SparseCore.T c : Thread nD τ).loc main_v6_0 ↦{fullShare} G 1)
        ∗ ((SparseCore.T c : Thread nD τ).loc main_v6_1 ↦{fullShare} G 2)) := by
  unfold Pipeline.Dat.arrays
  rw [bigSep_W0]
  have hs : ∀ w : Fin 3, (dats e 0 c).share w = fullShare := fun w => by
    show (if _ then fullShare else fullShare) = _
    split <;> rfl
  rw [hs 0, hs 1, hs 2]
  have hv : ∀ w : Fin 3, (((Pipeline.pinD pcfgs (adm e) c 0).win w).arr.view.set) = Finset.univ := fun w => set_arr w
  rw [hv 0, hv 1, hv 2]

theorem pref_eq (c : Dev nD) :
    (Pipeline.prefHeld pre0 c (fun _ => fullShare) (tbl e) : sProp 𝕄) = tbPt c tbM e.tb := by
  unfold Pipeline.prefHeld
  rw [show (Finset.univ : Finset (Fin 1)) = {(0 : Fin 1)} from by decide, bigSep_singleton]
  rfl

theorem otc_none (c : Dev nD) (g : GSem nD τ sig) : (K (F := F)).Otc c 0 g none = 0 := by
  by_contra h
  have := (K (F := F)).lev_of_Otc_pos (d := c) (n := 0) (g := g) (ι := none) (Nat.pos_of_ne_zero h)
  rw [SparseCore.Cfg.lev_none] at this
  omega

theorem owesAt_of (c : Dev nD) (t : Fin ((cfgM e).N + 1)) : owed0 (F := F) c ⊢ (dats e 0 c).owesAt none t := by
  unfold Pipeline.Dat.owesAt Pipeline.owesWithin
  iintro ⟨%W, %hW, HO⟩
  iexists W
  isplitr
  · ipureintro
    intro p hp
    refine Or.inl ?_
    have := hW p hp
    obtain ⟨s, ix⟩ := p
    cases ix with
    | none => rfl
    | some q => exact absurd this (Nat.not_le.mpr ((K (F := F)).lev_some_pos ((SparseCore.T c : Thread nD τ), s) q))
  iexact HO

theorem of_owesAt (c : Dev nD) (t : Fin ((cfgM e).N + 1)) : (dats e 0 c).owesAt none t ⊢ owed0 (F := F) c := by
  unfold Pipeline.Dat.owesAt Pipeline.owesWithin
  iintro ⟨%W, %hW, HO⟩
  iexists W
  isplitr
  · ipureintro
    intro p hp
    have hn : p.2 = none := by
      rcases hW hp with h | ⟨w, s, h⟩
      · exact h
      · rw [h]
    rw [hn, SparseCore.Cfg.lev_none]
  iexact HO

theorem phinj : Function.Injective (Pipeline.PerCore.cellOf (nD := nD) (τ := τ) (Pipeline.pinD pcfgs (adm e))) :=
  fun x y h => Gen.cellOf_inj (fun _ => ⟨tbl e, trivial⟩) h

/-- The region. -/
def seg : Pipeline.PerCore.RegionSeg pcfgs (adm e) (dats e) none (defs₀ (F := F)) 𝒱₀ (K (F := F)).L (K (F := F)).lev 0 where
  win := winFacts0.to₀
  block_pos := block_pos0
  stage_whole := stage_whole0
  K := PEmpty
  osem := fun k => k.elim
  ho := Pipeline.OwnSemFacts.none _
  hbody := fun c => (body_obligation e c).loose
  hwaits := fun c => Pipeline.PerCore.cellsWaits_intro _ _ _ _ _ fun w s t => (K (F := F)).mayWait_none _ (otc_none c)
  pre := fun c => iprop(four e c e.o1 e.o2 ∗ owed0 (F := F) c)
  post := fun c => iprop(four e c (slowOf e) e.x ∗ owed0 (F := F) c)
  X := fun _ => BI.emp
  Y := fun c => tbPt c tbM e.tb
  Z := fun _ => BI.emp
  hentry := fun c => by
    refine BIBase.Entails.trans ?_ Idealize.SL.BI.fupd_intro
    rw [arrays_eq, pref_eq]
    iintro ⟨⟨⟨H0, H1, H2, HT⟩, HO⟩, -, -⟩
    isplitl [H0 H1 H2]
    · isplitl [H0]; · iexact H0
      isplitl [H1]; · iexact H1
      iexact H2
    isplitl [HT]; · iexact HT
    isplitl [HO]; · iapply (owesAt_of e c 0) $$ HO
    isplitl []; · iempintro
    iempintro
  hin := fun c => by
    rw [pref_eq]
    show _ ⊢ tbPt c tbM e.tb
    iintro ⟨-, HT, -⟩
    iexact HT
  hout := fun c => by
    rw [Pipeline.ownSems0_none, show Pipeline.scopedRest (pcfgs (F := F) 0).spec c = (BI.emp : sProp 𝕄) from scopedRest0_eq c]
    show tbPt c tbM e.tb ⊢ _
    iintro HT
    isplitl [HT]; · iexact HT
    isplitl []; · iempintro
    iempintro
  hexit := fun c => by
    refine BIBase.Entails.trans ?_ Idealize.SL.BI.fupd_intro
    rw [arrays_eq]
    rw [show (dats e 0 c).arrAt 0 (Pipeline.pinD pcfgs (adm e) c 0).N = e.x from (dats e 0 c).arrAt_in 0 rfl _,
      show (dats e 0 c).arrAt 1 (Pipeline.pinD pcfgs (adm e) c 0).N = slowOf e from slow_final e c,
      show (dats e 0 c).arrAt 2 (Pipeline.pinD pcfgs (adm e) c 0).N = e.x from fast_final e c]
    iintro ⟨⟨H0, H1, H2⟩, HO, HT, -⟩
    isplitl [H0 H1 H2 HT]
    · isplitl [H0]; · iexact H0
      isplitl [H1]; · iexact H1
      isplitl [H2]; · iexact H2
      iexact HT
    iapply (of_owesAt e c _) $$ HO

theorem seg_pre (c : Dev nD) : (seg e).pre c = iprop(four e c e.o1 e.o2 ∗ owed0 (F := F) c) := rfl
theorem seg_post (c : Dev nD) : (seg e).post c = iprop(four e c (slowOf e) e.x ∗ owed0 (F := F) c) := rfl

variable [∀ e, Nonempty (Elt F e)]

theorem call_eq :
    (Prog.lift (.customCall (SparseCore.inner (Pipeline.entry 0)) ()) : Prog (TpuEff nD τ sig (Elt F) (SparseCore.Sig (ΛP (F := F)) 1) .tc) PUnit)
      = SparseCore.liftProg (.op (.customCall (Pipeline.entry 0) ()) (fun u => .ret u) : Prog (TpuEff nD τ sig (Elt F) (ΛP (F := F)) .tc) PUnit) := by
  rfl

/-- The region's call, in @main above the SparseCore launches. -/
theorem wp_region (c : Dev nD) (Q : PUnit → sProp 𝕄) :
    iprop((iprop(boundary (SparseCore.T c : Thread nD τ) ∗ four e c (slowOf e) e.x ∗ owed0 (F := F) c) -∗ Q ⟨⟩)
        ∗ boundary (SparseCore.T c : Thread nD τ) ∗ (four e c e.o1 e.o2 ∗ owed0 (F := F) c) ∗ levAts (K (F := F)).L (K (F := F)).lev
        ∗ Pipeline.PerCore.cellsGhost (Pipeline.pinD pcfgs (adm e)) EP 0 c ∗ Pipeline.PerCore.toksInit (Pipeline.pinD pcfgs (adm e)) EP 0 c)
      ⊢ wp frame (wpE ((K (F := F)).defs (D (F := F))) 𝒱 (SparseCore.T c) none) Set.univ
          (Prog.lift (.customCall (SparseCore.inner (Pipeline.entry 0)) ())) Q := by
  rw [call_eq]
  refine BIBase.Entails.trans ?_ ((K (F := F)).wp_liftProg (D (F := F)) 𝒱 (SparseCore.T c) Set.univ none (.op (.customCall (Pipeline.entry 0) ()) (fun u => .ret u)) Q)
  refine BIBase.Entails.trans ?_ (Pipeline.PerCore.RegionSeg.wp pcfgs (adm e) (dats e) none (phinj e) EP (defs₀ (F := F)) 𝒱₀ _ _ (seg e) c none
    (fun u hu => nomatch hu) (fun u => .ret u) Q)
  rw [seg_pre, seg_post]
  iintro ⟨Hk, Hb, Hp, HL, Hg, Ht⟩
  isplitl [Hk]
  · iintro ⟨Hb, Hp⟩
    rw [wp_ret]
    imodintro
    iapply Hk
    isplitl [Hb]; · iexact Hb
    iexact Hp
  isplitl [Hb]; · iexact Hb
  isplitl [Hp]; · iexact Hp
  isplitl [HL]; · iexact HL
  isplitl [Hg]; · iexact Hg
  iexact Ht

end Cert.VerbatimIdeal.Run

end
-- ==== Proof.Verb.Host.lean ====
/-
  The host lines of @main: the three straight lines of operations around the two kernels, and the contents of the
  buffers along them.
-/
module

public import proofs.«01_k».proof.Proof.Verb.Seg
public import proofs.«01_k».proof.Proof.RefValue

@[expose] public section

set_option maxRecDepth 16384

noncomputable section

namespace Cert.VerbatimIdeal.Run

open Cert.VerbatimIdeal Cert.VerbatimIdeal.Gen
open Idealize.ShloMosaic Idealize.ShloMosaic.TcCoe Idealize.ShloMosaic.StableHlo
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig (HIx 1) (Elt F) ℕ UU ℕ

/-- The line before the region: it works the table out. -/
abbrev preOps : List (HloOp τ sig (Elt F)) :=
  [ nullary main_c (constantI S_ 32 0#32),
    nullary main_c_0 (constantI S_ 32 63#32),
    unary main_c main_call0_v0 (sitofp .f32),
    unary main_c_0 main_call0_v1 (sitofp .f32),
    binary main_call0_v1 main_call0_v0 main_call0_v2 subf,
    nullary main_call0_cst (constant S_ .f32 0x41700000#32),
    binary main_call0_v2 main_call0_cst main_call0_v3 Host.divf,
    nullary main_call0_v4 (sitofp .f32 (iotaInDim S15 32 0)),
    nullary main_call0_cst_0 (constant S_ .f32 0x41700000#32),
    unary main_call0_cst_0 main_call0_v5 (broadcastInDim S15 ![] bcast_S_S15),
    binary main_call0_v4 main_call0_v5 main_call0_v6 Host.divf,
    reshape main_call0_v0 main_call0_v7 (rfl : (.f32 : EltTy) = .f32) shapeCasts_S_S1,
    nullary main_call0_cst_1 (constant S_ .f32 0x3F800000#32),
    unary main_call0_cst_1 main_call0_v8 (broadcastInDim S15 ![] bcast_S_S15),
    binary main_call0_v8 main_call0_v6 main_call0_v9 subf,
    unary main_call0_v7 main_call0_v10 (broadcastInDim S15 ![0] bcast_S1_S15_0),
    binary main_call0_v10 main_call0_v9 main_call0_v11 mulf,
    reshape main_call0_v1 main_call0_v12 (rfl : (.f32 : EltTy) = .f32) shapeCasts_S_S1,
    unary main_call0_v12 main_call0_v13 (broadcastInDim S15 ![0] bcast_S1_S15_0),
    binary main_call0_v13 main_call0_v6 main_call0_v14 mulf,
    binary main_call0_v11 main_call0_v14 main_call0_v15 addf,
    unary main_call0_v1 main_call0_v16 (broadcastInDim S1 ![] bcast_S_S1),
    binary main_call0_v15 main_call0_v16 main_v0 (fun a b => concatenate S16 0 [⟨S15, a⟩, ⟨S1, b⟩] concatenates_S15_S1_S16_d0),
    unary main_v0 main_v1 (fptosi 32 : (⟨S16, .f32⟩ : BufTy).Contents (Elt F) → (⟨S16, .i32⟩ : BufTy).Contents (Elt F)),
    nullary main_v2 (iotaInDim S16 32 0),
    nullary main_c_1 (constantI S_ 32 4#32),
    unary main_c_1 main_v3 (broadcastInDim S16 ![] bcast_S_S16 : (⟨S_, .i32⟩ : BufTy).Contents (Elt F) → (⟨S16, .i32⟩ : BufTy).Contents (Elt F)),
    binary main_v3 main_v2 main_v4 (muli : (⟨S16, .i32⟩ : BufTy).Contents (Elt F) → (⟨S16, .i32⟩ : BufTy).Contents (Elt F) → (⟨S16, .i32⟩ : BufTy).Contents (Elt F)),
    binary main_v1 main_v4 main_v5 (subi : (⟨S16, .i32⟩ : BufTy).Contents (Elt F) → (⟨S16, .i32⟩ : BufTy).Contents (Elt F) → (⟨S16, .i32⟩ : BufTy).Contents (Elt F)) ]

/-- The line between the region and the SparseCore launch. -/
abbrev midOps : List (HloOp τ sig (Elt F)) :=
  [ reshape main_arg0 main_v7 (rfl : (.f32 : EltTy) = .f32) shapeCasts_S3x64x256x256_S3072x4096,
    unary main_v7 main_v8 ((extractStridedSlice S768x4096 ![0, 0] · slices_S3072x4096_S768x4096_0_0) : (⟨S3072x4096, .f32⟩ : BufTy).Contents (Elt F) → (⟨S768x4096, .f32⟩ : BufTy).Contents (Elt F)) ]

/-- The line after the SparseCore launch. -/
abbrev sufOps : List (HloOp τ sig (Elt F)) :=
  [ unary main_v9 main_v10 ((extractStridedSlice S1x1 ![0, 0] · slices_S768x4096_S1x1_0_0) : (⟨S768x4096, .f32⟩ : BufTy).Contents (Elt F) → (⟨S1x1, .f32⟩ : BufTy).Contents (Elt F)),
    reshape main_v10 main_v11 (rfl : (.f32 : EltTy) = .f32) shapeCasts_S1x1_S_,
    nullary main_cst (constant S_ .f32 0x00000000#32),
    binary main_v11 main_cst main_v12 (mulf : (⟨S_, .f32⟩ : BufTy).Contents (Elt F) → (⟨S_, .f32⟩ : BufTy).Contents (Elt F) → (⟨S_, .f32⟩ : BufTy).Contents (Elt F)),
    nullary main_c_2 (constantI S_ 32 0#32),
    unary main_c_2 main_v13 (broadcastInDim S1 ![] bcast_S_S1 : (⟨S_, .i32⟩ : BufTy).Contents (Elt F) → (⟨S1, .i32⟩ : BufTy).Contents (Elt F)),
    nullary main_c_3 (constantI S_ 32 0#32),
    unary main_c_3 main_v14 (broadcastInDim S1 ![] bcast_S_S1 : (⟨S_, .i32⟩ : BufTy).Contents (Elt F) → (⟨S1, .i32⟩ : BufTy).Contents (Elt F)),
    nullary main_c_4 (constantI S_ 32 0#32),
    unary main_c_4 main_v15 (broadcastInDim S1 ![] bcast_S_S1 : (⟨S_, .i32⟩ : BufTy).Contents (Elt F) → (⟨S1, .i32⟩ : BufTy).Contents (Elt F)),
    nullary main_c_5 (constantI S_ 32 0#32),
    unary main_c_5 main_v16 (broadcastInDim S1 ![] bcast_S_S1 : (⟨S_, .i32⟩ : BufTy).Contents (Elt F) → (⟨S1, .i32⟩ : BufTy).Contents (Elt F)),
    nary ![main_v13, main_v14, main_v15, main_v16] main_v17 (fun u => (concatenate S4 0 [⟨S1, (u 0 : (⟨S1, .i32⟩ : BufTy).Contents (Elt F))⟩, ⟨S1, (u 1 : (⟨S1, .i32⟩ : BufTy).Contents (Elt F))⟩, ⟨S1, (u 2 : (⟨S1, .i32⟩ : BufTy).Contents (Elt F))⟩, ⟨S1, (u 3 : (⟨S1, .i32⟩ : BufTy).Contents (Elt F))⟩] concatenates_S1_S1_S1_S1_S4_d0 : (⟨S4, .i32⟩ : BufTy).Contents (Elt F))),
    ternary main_v6_0 main_v17 main_v12 main_v18 ((fun x i u => Host.scatter scatter_S3x16x256x256_S4_S__n_0123_0123_0 FloatOps.addf x i u) : (⟨S3x16x256x256, .f32⟩ : BufTy).Contents (Elt F) → (⟨S4, .i32⟩ : BufTy).Contents (Elt F) → (⟨S_, .f32⟩ : BufTy).Contents (Elt F) → (⟨S3x16x256x256, .f32⟩ : BufTy).Contents (Elt F)) ]

theorem preOps_sub : (preOps : List (HloOp τ sig (Elt F))).Forall fun op => op.bufs ⊆ tcRefs τ sig :=
  ⟨nullary_bufs_sub .., nullary_bufs_sub .., unary_bufs_sub .., unary_bufs_sub .., binary_bufs_sub .., nullary_bufs_sub .., binary_bufs_sub .., nullary_bufs_sub .., nullary_bufs_sub .., unary_bufs_sub .., binary_bufs_sub .., reshape_bufs_sub .., nullary_bufs_sub .., unary_bufs_sub .., binary_bufs_sub .., unary_bufs_sub .., binary_bufs_sub .., reshape_bufs_sub .., unary_bufs_sub .., binary_bufs_sub .., binary_bufs_sub .., unary_bufs_sub .., binary_bufs_sub .., unary_bufs_sub .., nullary_bufs_sub .., nullary_bufs_sub .., unary_bufs_sub .., binary_bufs_sub .., binary_bufs_sub ..⟩
theorem midOps_sub : (midOps : List (HloOp τ sig (Elt F))).Forall fun op => op.bufs ⊆ tcRefs τ sig :=
  ⟨reshape_bufs_sub .., unary_bufs_sub ..⟩
theorem sufOps_sub : (sufOps : List (HloOp τ sig (Elt F))).Forall fun op => op.bufs ⊆ tcRefs τ sig :=
  ⟨unary_bufs_sub .., reshape_bufs_sub .., nullary_bufs_sub .., binary_bufs_sub .., nullary_bufs_sub .., unary_bufs_sub .., nullary_bufs_sub .., unary_bufs_sub .., nullary_bufs_sub .., unary_bufs_sub .., nullary_bufs_sub .., unary_bufs_sub .., nary_bufs_sub .., ternary_bufs_sub ..⟩

/-- @main: the line, the region's call, the line, the SparseCore launch, the line. -/
theorem main_eq (d : Dev nD) :
    (main (F := F) d) = seqK preOps (Prog.lift (.customCall (SparseCore.inner (Pipeline.entry 0)) ()) >>= fun _ =>
      seqK midOps ((sc (F := F)).run d 0 >>= fun _ => seq sufOps)) := rfl

theorem preOps_fresh : ∀ op ∈ (preOps : List (HloOp τ sig (Elt F))), op.fresh = ∅ := by
  intro _ h; (repeat (cases h with | head => rfl | tail _ h => ?_)); exact nomatch h
theorem midOps_fresh : ∀ op ∈ (midOps : List (HloOp τ sig (Elt F))), op.fresh = ∅ := by
  intro _ h; (repeat (cases h with | head => rfl | tail _ h => ?_)); exact nomatch h
theorem sufOps_fresh : ∀ op ∈ (sufOps : List (HloOp τ sig (Elt F))), op.fresh = ∅ := by
  intro _ h; (repeat (cases h with | head => rfl | tail _ h => ?_)); exact nomatch h

abbrev a0' : DevRef τ sig := Proc.devRef .tc (main_arg0 : Ref sig .tc)
abbrev t8' : DevRef τ sig := Proc.devRef .tc (main_v5 : Ref sig .tc)
abbrev s9' : DevRef τ sig := Proc.devRef .tc (main_v6_0 : Ref sig .tc)
abbrev f9' : DevRef τ sig := Proc.devRef .tc (main_v6_1 : Ref sig .tc)
abbrev x11' : DevRef τ sig := Proc.devRef .tc (main_v8 : Ref sig .tc)
abbrev o12' : DevRef τ sig := Proc.devRef .tc (main_v9 : Ref sig .tc)
abbrev r21' : DevRef τ sig := Proc.devRef .tc (main_v18 : Ref sig .tc)

/-- The table the first line leaves: the reference's position `s` of sixteen over sixty-four frames, less four times `s`. -/
def tab : S16.Idx → Elt F .i32 :=
  subi (Cert.ReferenceIdeal.Run.positions (F := F)) (muli (broadcastInDim S16 ![] bcast_S_S16 (constantI S_ 32 4#32)) (iotaInDim S16 32 0))

theorem pre_tab (V : Valuation τ sig (Elt F)) : after preOps V t8' = tab := by
  after_results_simp
  rfl
theorem pre_a0 (V : Valuation τ sig (Elt F)) : after preOps V a0' = V a0' := by
  after_results_simp
theorem pre_s9 (V : Valuation τ sig (Elt F)) : after preOps V s9' = V s9' := by
  after_results_simp
theorem pre_f9 (V : Valuation τ sig (Elt F)) : after preOps V f9' = V f9' := by
  after_results_simp

theorem mid_a0 (V : Valuation τ sig (Elt F)) : after midOps V a0' = V a0' := by
  after_results
theorem mid_s9 (V : Valuation τ sig (Elt F)) : after midOps V s9' = V s9' := by
  after_results
theorem mid_f9 (V : Valuation τ sig (Elt F)) : after midOps V f9' = V f9' := by
  after_results
theorem suf_a0 (V : Valuation τ sig (Elt F)) : after sufOps V a0' = V a0' := by
  after_results
theorem suf_f9 (V : Valuation τ sig (Elt F)) : after sufOps V f9' = V f9' := by
  after_results

/-- What the last line adds at the corner of the slow clip: the launch's first element times zero. -/
def probe (o : S768x4096.Idx → Elt F .f32) : S_.Idx → Elt F .f32 :=
  mulf (shapeCast S_ (extractStridedSlice S1x1 ![0, 0] o slices_S768x4096_S1x1_0_0) shapeCasts_S1x1_S_) (constant S_ .f32 0x00000000#32)
/-- Where: the corner. -/
def corner : S4.Idx → Elt F .i32 :=
  concatenate S4 0 [⟨S1, broadcastInDim S1 ![] bcast_S_S1 (constantI S_ 32 0#32)⟩, ⟨S1, broadcastInDim S1 ![] bcast_S_S1 (constantI S_ 32 0#32)⟩,
    ⟨S1, broadcastInDim S1 ![] bcast_S_S1 (constantI S_ 32 0#32)⟩, ⟨S1, broadcastInDim S1 ![] bcast_S_S1 (constantI S_ 32 0#32)⟩]
    concatenates_S1_S1_S1_S1_S4_d0
def finalSlow (s : S3x16x256x256.Idx → Elt F .f32) (o : S768x4096.Idx → Elt F .f32) : S3x16x256x256.Idx → Elt F .f32 :=
  Host.scatter scatter_S3x16x256x256_S4_S__n_0123_0123_0 FloatOps.addf s (corner (F := F)) (probe o)

theorem suf_r21 (V : Valuation τ sig (Elt F)) : after sufOps V r21' = finalSlow (V s9') (V o12') := by
  simp only [after_cons, after_nil]
  rw [ternary_result, nary4_result]
  after_results_simp
  rfl

/-- The table over the extended reals. -/
theorem tab_eq : tab (F := Ideal) = subi Cert.ReferenceIdeal.Run.at16 (muli (broadcastInDim S16 ![] bcast_S_S16 (constantI S_ 32 4#32)) (iotaInDim S16 32 0)) := by
  unfold tab
  rw [Cert.ReferenceIdeal.Run.positions_eq]

theorem t0_chk (t : Fin 16) : ∀ a, (k0_off2 ((tab (F := Ideal)) (ix1 t))) a + S1x1x256x256.size a ≤ S1x4x256x256.size a := by
  rw [tab_eq]
  revert t
  decide +kernel

/-- Each of the table's words is one of the four frames of a block. -/
theorem tab_ok (i : grid0.Coords) : k0_chk1 (wordAt (F := Ideal) i (tab (F := Ideal))) := by
  rw [wordAt_eq]
  exact t0_chk (i 1)

theorem mem_uc (r : Ref sig .tc) (h : r.isScoped = false) : Proc.devRef (τ := τ) .tc r ∈ Pipeline.ucRefs τ sig :=
  Finset.mem_filter.mpr ⟨devRef_mem_tcRefs r, fun h' => Bool.false_ne_true (h.symm.trans h')⟩

end Cert.VerbatimIdeal.Run

end
-- ==== Proof.Verb.Sc.lean ====
/-
  The SparseCore kernel: thirty-two vector subcores, subcore `s` of SparseCore `c` fetching rows `24·(2s + c)` to
  `24·(2s + c) + 24` of the 768×4096 source into its vector memory and writing them to the same rows of the
  destination. The body is run once, at a symbolic subcore, with the VALUE carried: the rows written are the source's.
-/
module

public import proofs.«01_k».proof.Proof.Verb.Base

@[expose] public section

noncomputable section

namespace Cert.VerbatimIdeal.Run

open Cert.VerbatimIdeal Cert.VerbatimIdeal.Gen
open Idealize.ShloMosaic
open Idealize.ShloMosaic.SparseCore (S V)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

/-! ## The rows of each subcore -/

theorem rows_dvd : 32 ∣ S768x4096.size 0 := ⟨24, rfl⟩
/-- Block `b` of the thirty-two blocks of 24 rows. -/
abbrev rowsOf (b : Fin 32) : Rect S768x4096 := Rect.part (s := S768x4096) (a₀ := 0) rows_dvd b
/-- Subcore `s` of SparseCore `c` has block `2s + c`. -/
def blk (c : Fin 2) (s : Fin 16) : Fin 32 := ⟨2 * s.val + c.val, by omega⟩

/-- The source, the destination and the vector memory, as the subcore addresses them. -/
abbrev xM : Memref sig .scVector .hbm S768x4096 .f32 := Memref.whole main_v8_scv
abbrev oM : Memref sig .scVector .hbm S768x4096 .f32 := Memref.whole main_v9_scv
abbrev sM : Memref sig .scVector .vmem S24x4096 .f32 := Memref.whole cc1_scratch0

abbrev rowSet (b : Fin 32) : Finset S768x4096.Idx := (rowsOf b).set

/-- Block `b` of the source at `x`, held whole. -/
abbrev xBlk (x : (d : Dev nD) → Buf (Elt F) (xLoc d)) (d : Dev nD) (b : Fin 32) : sProp 𝕄 := xLoc d ↦[rowSet b]{fullShare} x d
/-- Block `b` of the destination at `f`. -/
abbrev oBlk (d : Dev nD) (b : Fin 32) (f : Buf (Elt F) (oLoc d)) : sProp 𝕄 := oLoc d ↦[rowSet b]{fullShare} f

theorem nSub_eq : (K (F := F)).nSub 0 = 16 := rfl
theorem nCore_eq : (K (F := F)).nCore 0 = 2 := rfl

/-- What the call hands over and takes back: a subcore gets its block of the source, at `x`, and of the destination, at
    anything; it returns the destination's block AT THE SOURCE'S CONTENTS. -/
def P (x : (d : Dev nD) → Buf (Elt F) (xLoc d)) : (K (F := F)).Pay (nD := nD) (Val := Elt F) (Name := ℕ) (U := UU) where
  st := fun q d c => match q with
    | 0 => bigSep Finset.univ fun s : Fin 16 => iprop(xBlk x d (blk (Fin.cast nCore_eq c) s) ∗ ∃ f, oBlk d (blk (Fin.cast nCore_eq c) s) f)
  dn := fun q d c => match q with
    | 0 => bigSep Finset.univ fun s : Fin 16 => iprop(xBlk x d (blk (Fin.cast nCore_eq c) s) ∗ oBlk d (blk (Fin.cast nCore_eq c) s) (x d))
  go := fun q d c i => match q with
    | 0 => iprop(xBlk x d (blk (Fin.cast nCore_eq c) (Fin.cast nSub_eq i)) ∗ ∃ f, oBlk d (blk (Fin.cast nCore_eq c) (Fin.cast nSub_eq i)) f)
  td := fun q d c i => match q with
    | 0 => iprop(xBlk x d (blk (Fin.cast nCore_eq c) (Fin.cast nSub_eq i)) ∗ oBlk d (blk (Fin.cast nCore_eq c) (Fin.cast nSub_eq i)) (x d))
  x := fun _ _ => iprop(emp)

instance P_storable (x : (d : Dev nD) → Buf (Elt F) (xLoc d)) : (P (F := F) x).IsStorable where
  st q d c := match q with
    | 0 => (inferInstance : BI.Storable (upEmb : UEmb _ 𝕄)
      (bigSep Finset.univ fun s : Fin 16 => iprop(xBlk x d (blk (Fin.cast nCore_eq c) s) ∗ ∃ f, oBlk d (blk (Fin.cast nCore_eq c) s) f)))
  dn q d c := match q with
    | 0 => (inferInstance : BI.Storable (upEmb : UEmb _ 𝕄)
      (bigSep Finset.univ fun s : Fin 16 => iprop(xBlk x d (blk (Fin.cast nCore_eq c) s) ∗ oBlk d (blk (Fin.cast nCore_eq c) s) (x d))))
  go q d c i := match q with
    | 0 => (inferInstance : BI.Storable (upEmb : UEmb _ 𝕄)
      iprop(xBlk x d (blk (Fin.cast nCore_eq c) (Fin.cast nSub_eq i)) ∗ ∃ f, oBlk d (blk (Fin.cast nCore_eq c) (Fin.cast nSub_eq i)) f))
  td q d c i := match q with
    | 0 => (inferInstance : BI.Storable (upEmb : UEmb _ 𝕄)
      iprop(xBlk x d (blk (Fin.cast nCore_eq c) (Fin.cast nSub_eq i)) ∗ oBlk d (blk (Fin.cast nCore_eq c) (Fin.cast nSub_eq i)) (x d)))

/-! ## One subcore's task -/

section Tile

variable (d : Dev nD) (L : grid1.Coords)

abbrev cV : Fin τ.nSC := (L 0).castLE hcore1
abbrev jV : Fin τ.nSub := (L 1).castLE hsub1
abbrev bL : Fin 32 := blk (L 0) (L 1)
/-- The thread. -/
abbrev thrV : Thread nD τ := V d (cV L) (jV L)

/-- The rows the body slices out. -/
abbrev rowsK : Rect S768x4096 := Rect.unit (s := S768x4096) (k1_off1 L) S24x4096.size (k1_off1_inb L)
abbrev xRows : Memref sig .scVector .hbm S24x4096 .f32 := (xM).slice (rowsK L) (fun _ => rfl)
abbrev oRows : Memref sig .scVector .hbm S24x4096 .f32 := (oM).slice (rowsK L) (fun _ => rfl)

theorem rowsK_eq : rowsK L = rowsOf (bL L) := by
  unfold rowsK rowsOf Rect.part Rect.block
  congr 1 <;> funext a
  · rw [k1_off1_eq]
    match a with
    | 0 => simp only [Shape.partIx, Shape.partSize, bL, blk]; simp; ring
    | 1 => simp [Shape.partIx, Shape.partSize]
  · match a with
    | 0 => simp [Shape.partSize]
    | 1 => simp [Shape.partSize]

theorem set_xRows : (xRows L).view.set = rowSet (bL L) := (View.set_slice_whole _ _).trans (by rw [rowsK_eq])
theorem set_oRows : (oRows L).view.set = rowSet (bL L) := (View.set_slice_whole _ _).trans (by rw [rowsK_eq])

theorem pts_xRows (f : Buf (Elt F) (xLoc d)) :
    ((xRows L).view.loc (thrV d L) ↦[(xRows L).view.set]{fullShare} f : sProp 𝕄) = xLoc d ↦[rowSet (bL L)]{fullShare} f := by
  rw [set_xRows]
theorem pts_oRows (f : Buf (Elt F) (oLoc d)) :
    ((oRows L).view.loc (thrV d L) ↦[(oRows L).view.set]{fullShare} f : sProp 𝕄) = oLoc d ↦[rowSet (bL L)]{fullShare} f := by
  rw [set_oRows]
theorem pts_sM (f : Buf (Elt F) ((thrV d L).loc cc1_scratch0)) :
    ((sM).view.loc (thrV d L) ↦{fullShare} f : sProp 𝕄) = (thrV d L).loc cc1_scratch0 ↦{fullShare} f := rfl

/-- The two transfers' completion cells. -/
abbrev inCell (d : Dev nD) (c : Fin τ.nSC) (i : Fin τ.nSub) : GSem nD τ sig := (V d c i, .dma cc1_scoped0.sem)
abbrev outCell (d : Dev nD) (c : Fin τ.nSC) (i : Fin τ.nSub) : GSem nD τ sig := (V d c i, .dma cc1_scoped1.sem)

theorem ownSems0_cells :
    (ownSems0 (thrV d L) : sProp 𝕄)
      = iprop(semVal (inCell d (cV L) (jV L)) 0 ∗ semVal (outCell d (cV L) (jV L)) 0
          ∗ bigSep (((ownCells (thrV d L)).erase (inCell d (cV L) (jV L))).erase (outCell d (cV L) (jV L))) fun g => semVal g 0) := by
  unfold SparseCore.Cfg.ownSems0
  rw [SparseCore.bigSep_erase' ((mem_ownCells (g := inCell d (cV L) (jV L))).mpr ⟨rfl, by
      show (SemLoc.dma cc1_scoped0.sem : SemLoc sig).isScoped .scVector = true; decide⟩),
    SparseCore.bigSep_erase' (Finset.mem_erase.mpr ⟨by simp [inCell, outCell]; decide, (mem_ownCells (g := outCell d (cV L) (jV L))).mpr ⟨rfl, by
      show (SemLoc.dma cc1_scoped1.sem : SemLoc sig).isScoped .scVector = true; decide⟩⟩)]

theorem ownBufs_scratch :
    (ownBufs (thrV d L) : sProp 𝕄)
      = iprop((∃ f, (thrV d L).loc cc1_scratch0 ↦{fullShare} f)
          ∗ bigSep ((ownRefs (τ := τ) (.scVector (cV L) (jV L))).erase ((Proc.scVector (cV L) (jV L)).devRef cc1_scratch0))
              fun b => iprop(∃ f, ((d, b) : Loc nD τ sig) ↦{fullShare} f)) := by
  unfold SparseCore.Cfg.ownBufs
  exact SparseCore.bigSep_erase' (SparseCore.Cfg.mem_ownRefs_of_owner (p := Proc.scVector (cV L) (jV L))
    (b := (Proc.scVector (cV L) (jV L)).devRef cc1_scratch0) rfl)

/-- Rows written with what was read at the same rows of the source are the source there. -/
theorem rows_written (x : Buf (Elt F) (xLoc d)) (f : Buf (Elt F) (oLoc d)) (pay : S24x4096.Idx → Elt F .f32)
    (hpay : pay = (xRows L).view.read (Elt F) x) :
    ∀ i ∈ (oRows L).view.set,
      (oRows L).view.writes (Elt F) f [(⟨Rect.whole S24x4096, pay⟩ : View.Piece (Elt F) S24x4096 .f32)] i = x i := by
  subst hpay
  intro i hi
  obtain ⟨j, -, rfl⟩ := Finset.mem_map.mp hi
  have he : (oRows L).view.emb j = ((oRows L).view.slice (Rect.whole S24x4096)).emb j :=
    congrArg (oRows L).view.emb (Rect.emb_whole_apply S24x4096 j).symm
  rw [View.writes_singleton, he, View.write_emb_of_mem _ _ (Finset.mem_univ j), ← he, View.read_apply]
  rfl

set_option maxHeartbeats 4000000 in
/-- The task of the subcore at `L`: the rows in, their wait, the rows out, their wait. -/
theorem tile_body (x : (d : Dev nD) → Buf (Elt F) (xLoc d)) (hF : (K (F := F)).Facts) (O : CellTallies nD τ sig (HIx 1))
    (W : Waits sig (HIx 1)) (hO : ∀ g, O g none = 0) :
    iprop(levAts (K (F := F)).L (K (F := F)).lev ∗ emp ∗ (xBlk x d (bL L) ∗ ∃ f, oBlk d (bL L) f)
        ∗ scopedBufs (thrV d L) ∗ scopedSems0 (thrV d L) ∗ owes (thrV d L) O W)
      ⊢ wp frame (wpE (defs₀ (F := F)) 𝒱₀ (thrV d L) none) Set.univ
          (cc1_lin_k L xM (Memref.isWhole_whole _) oM (Memref.isWhole_whole _) sM (Memref.isWhole_whole _) cc1_scoped0 cc1_scoped1)
          fun _ => iprop((xBlk x d (bL L) ∗ oBlk d (bL L) (x d)) ∗ scopedBufs (thrV d L) ∗ scopedSems0 (thrV d L)
            ∗ ∃ W', ⌜∀ p ∈ W', p ∈ W ∨ p.2 = none⌝ ∗ owes (thrV d L) O W') := by
  simp only [cc1_lin_k_eq_skeleton]; unfold cc1_lin_k_skel
  rw [(K (F := F)).scopedBufs_V hF d (cV L) (jV L), SparseCore.Cfg.scopedSems0_V (Val := Elt F) d (cV L) (jV L), ownSems0_cells, ownBufs_scratch]
  iintro ⟨#Hlv, -, ⟨Hx, ⟨%fo, Ho⟩⟩, ⟨⟨%fs, Hs⟩, Hbufs⟩, ⟨Hin, Hout, Hsems⟩, HO⟩
  ihave Hmw := (show levAts (K (F := F)).L (K (F := F)).lev ⊢ Transfers.MayWaits (thrV d L) (default : HIx 1) O from
    (K (F := F)).mayWaits_none (thr := thrV d L) hO) $$ Hlv
  ihave Hx' := (Entails.of_eq (pts_xRows (F := F) d L _).symm) $$ Hx
  ihave Ho' := (Entails.of_eq (pts_oRows (F := F) d L _).symm) $$ Ho
  ihave Hs' := (Entails.of_eq (pts_sM (F := F) d L _).symm) $$ Hs
  sl_exec
  sl_step
  have hpay : tile_body.sl.dma0_1 d L x fs = (xRows L).view.read (Elt F) (x d) := by
    unfold tile_body.sl.dma0_1 tile_body.sl.dma0
    rw [ReadAs.apply_same, ReadAs.apply_same, View.write_whole_univ]
    rfl
  ihave Ho'' := (show _ ⊢ _ from Entails.of_eq ((pointsTo_congr (rows_written d L (x d) fo (tile_body.sl.dma0_1 d L x fs) hpay)).trans (pts_oRows (F := F) d L (x d)))) $$ Ho'
  ihave Hx'' := (show _ ⊢ _ from Entails.of_eq (pts_xRows (F := F) d L (x d))) $$ Hx'
  isplitl [Hx'' Ho'']
  · isplitl [Hx'']; · iexact Hx''
    iexact Ho''
  isplitl [Hs' Hbufs]
  · isplitl [Hs']; · iexists _; iexact Hs'
    iexact Hbufs
  isplitl [Hin Hout Hsems]
  · isplitl [Hin]; · iexact Hin
    isplitl [Hout]; · iexact Hout
    iexact Hsems
  iexists _; isplitr
  swap; · iexact HO
  ipureintro; intro p hp
  rcases Finset.mem_insert.mp hp with hp | hp; · exact .inr (hp ▸ rfl)
  rcases Finset.mem_insert.mp hp with hp | hp; · exact .inr (hp ▸ rfl)
  exact .inl hp

end Tile

/-! ## The obligation -/

def coordsV (c : Fin (grid1.bound 0)) (s : Fin (grid1.bound 1)) : grid1.Coords :=
  fun | 0 => c | 1 => s | ⟨_ + 2, h⟩ => absurd h (Nat.not_lt.2 (Nat.le_add_left _ _))

theorem defs₀_vector (c : Fin τ.nSC) (s : Fin τ.nSub) :
    defs₀ (F := F) (.scVector c s) 1 ()
      = SparseCore.onTile hcore1 hsub1 (fun c s => cc1_lin_k (coordsV c s)
          xM (Memref.isWhole_whole _) oM (Memref.isWhole_whole _) sM (Memref.isWhole_whole _) cc1_scoped0 cc1_scoped1) ⟨⟩ c s := rfl

omit [FloatOps F] in
/-- The waits recorded carry no height, so they are within what the call allows. -/
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

theorem tileObl (x : (d : Dev nD) → Buf (Elt F) (xLoc d)) : (K (F := F)).TileObl (D (F := F)) 𝒱 (P x) v₀ 0 := by
  intro d c i O W hO _ _
  simp only [show (P (F := F) x).ox = fun _ _ => 0 from rfl, add_zero]
  have hci : ((K (F := F)).core 0 c).val < grid1.bound 0 ∧ ((K (F := F)).sub 0 i).val < grid1.bound 1 := ⟨c.isLt, i.isLt⟩
  change _ ⊢ wp _ _ _ (Pipeline.liftProg (defs₀ (F := F) (.scVector ((K (F := F)).core 0 c) ((K (F := F)).sub 0 i)) 1 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact (tile_body d (coordsV ⟨_, hci.1⟩ ⟨_, hci.2⟩) x scFacts O W hO).trans (wp_mono frame _ _ fun _ => obl_post)

/-! ## A core's operands are its subcores' -/

theorem bigSep_tasks (Φ : Fin 16 → sProp 𝕄) :
    (bigSep Finset.univ fun i : Fin ((K (F := F)).nSub 0) => Φ (Fin.cast nSub_eq i)) = bigSep Finset.univ Φ :=
  bigSep_congr fun _ _ => congrArg Φ (Fin.ext rfl)

theorem vecSplit (x : (d : Dev nD) → Buf (Elt F) (xLoc d)) : (K (F := F)).VecSplit' (P x) 0 := by
  intro d c
  show (bigSep Finset.univ fun s : Fin 16 => iprop(xBlk x d (blk (Fin.cast nCore_eq c) s) ∗ ∃ f, oBlk d (blk (Fin.cast nCore_eq c) s) f))
    ⊢ |={Set.univ}=> iprop(
      (bigSep Finset.univ fun i : Fin ((K (F := F)).nSub 0) =>
        iprop(xBlk x d (blk (Fin.cast nCore_eq c) (Fin.cast nSub_eq i)) ∗ ∃ f, oBlk d (blk (Fin.cast nCore_eq c) (Fin.cast nSub_eq i)) f))
      ∗ ((bigSep Finset.univ fun i : Fin ((K (F := F)).nSub 0) =>
          iprop(xBlk x d (blk (Fin.cast nCore_eq c) (Fin.cast nSub_eq i)) ∗ oBlk d (blk (Fin.cast nCore_eq c) (Fin.cast nSub_eq i)) (x d)))
        -∗ bigSep Finset.univ fun s : Fin 16 => iprop(xBlk x d (blk (Fin.cast nCore_eq c) s) ∗ oBlk d (blk (Fin.cast nCore_eq c) s) (x d))))
  rw [bigSep_tasks (F := F) (fun s => iprop(xBlk x d (blk (Fin.cast nCore_eq c) s) ∗ ∃ f, oBlk d (blk (Fin.cast nCore_eq c) s) f)),
    bigSep_tasks (F := F) (fun s => iprop(xBlk x d (blk (Fin.cast nCore_eq c) s) ∗ oBlk d (blk (Fin.cast nCore_eq c) s) (x d)))]
  iintro H; imodintro
  isplitl [H]; · iexact H
  iintro H; iexact H

/-! ## The whole buffers are their blocks -/

/-- Every block is some subcore's, once. -/
def blkEquiv : Fin 2 × Fin 16 ≃ Fin 32 where
  toFun p := blk p.1 p.2
  invFun b := (⟨b.val % 2, by omega⟩, ⟨b.val / 2, by omega⟩)
  left_inv p := by
    obtain ⟨c, s⟩ := p
    refine Prod.ext (Fin.ext ?_) (Fin.ext ?_) <;> simp [blk] <;> omega
  right_inv b := by apply Fin.ext; simp [blk]; omega

theorem rows_disjoint : ∀ i ∈ (Finset.univ : Finset (Fin 32)), ∀ j ∈ (Finset.univ : Finset (Fin 32)), i ≠ j → Disjoint (rowSet i) (rowSet j) :=
  fun _ _ _ _ h => Rect.part_disjoint rows_dvd h
theorem rows_cover : (Finset.univ : Finset (Fin 32)).biUnion rowSet = Finset.univ := Rect.biUnion_part rows_dvd

omit [FloatOps F] in
theorem xPts_blocks (d : Dev nD) (f : Buf (Elt F) (xLoc d)) :
    (xLoc d ↦{fullShare} f : sProp 𝕄) = bigSep Finset.univ fun i : Fin 32 => xLoc d ↦[rowSet i]{fullShare} f := by
  rw [← pointsTo_biUnion Finset.univ (ℓ := xLoc d) rowSet rows_disjoint, rows_cover]
omit [FloatOps F] in
theorem oPts_blocks (d : Dev nD) (f : Buf (Elt F) (oLoc d)) :
    (oLoc d ↦{fullShare} f : sProp 𝕄) = bigSep Finset.univ fun i : Fin 32 => oLoc d ↦[rowSet i]{fullShare} f := by
  rw [← pointsTo_biUnion Finset.univ (ℓ := oLoc d) rowSet rows_disjoint, rows_cover]

/-- A family over the blocks, by SparseCore and subcore. -/
theorem bigSep_blocks (Φ : Fin 32 → sProp 𝕄) :
    (bigSep Finset.univ fun c : Fin ((K (F := F)).nCore 0) => bigSep Finset.univ fun s : Fin 16 => Φ (blk (Fin.cast nCore_eq c) s))
      = bigSep Finset.univ Φ := by
  rw [bigSep_univ_equiv blkEquiv Φ, bigSep_univ_prod]
  exact bigSep_congr fun _ _ => bigSep_congr fun _ _ => rfl

theorem blk_any (x : (d : Dev nD) → Buf (Elt F) (xLoc d)) (d : Dev nD) (b : Fin 32) (f : Buf (Elt F) (oLoc d)) :
    iprop(xBlk x d b ∗ oBlk d b f) ⊢ (iprop(xBlk x d b ∗ ∃ f, oBlk d b f) : sProp 𝕄) := by
  iintro ⟨H1, H2⟩
  isplitl [H1]; · iexact H1
  iexists f; iexact H2

/-- What the call needs, out of the two whole buffers. -/
theorem st_of_whole (x : (d : Dev nD) → Buf (Elt F) (xLoc d)) (d : Dev nD) (f : Buf (Elt F) (oLoc d)) :
    iprop((xLoc d ↦{fullShare} x d) ∗ oLoc d ↦{fullShare} f)
      ⊢ (bigSep Finset.univ fun c : Fin ((K (F := F)).nCore 0) => (P x).st 0 d c : sProp 𝕄) := by
  show _ ⊢ bigSep Finset.univ fun c : Fin ((K (F := F)).nCore 0) =>
    bigSep Finset.univ fun s : Fin 16 => iprop(xBlk x d (blk (Fin.cast nCore_eq c) s) ∗ ∃ f, oBlk d (blk (Fin.cast nCore_eq c) s) f)
  rw [bigSep_blocks (F := F) (fun b => iprop(xBlk x d b ∗ ∃ f, oBlk d b f)), xPts_blocks, oPts_blocks, ← bigSep_sep']
  exact bigSep_mono fun b _ => blk_any x d b f

/-- What the call returns: the destination at the source's contents. -/
theorem whole_of_dn (x : (d : Dev nD) → Buf (Elt F) (xLoc d)) (d : Dev nD) :
    (bigSep Finset.univ fun c : Fin ((K (F := F)).nCore 0) => (P x).dn 0 d c : sProp 𝕄)
      ⊢ iprop((xLoc d ↦{fullShare} x d) ∗ oLoc d ↦{fullShare} (show Buf (Elt F) (oLoc d) from x d)) := by
  show (bigSep Finset.univ fun c : Fin ((K (F := F)).nCore 0) =>
    bigSep Finset.univ fun s : Fin 16 => iprop(xBlk x d (blk (Fin.cast nCore_eq c) s) ∗ oBlk d (blk (Fin.cast nCore_eq c) s) (x d))) ⊢ _
  rw [bigSep_blocks (F := F) (fun b => iprop(xBlk x d b ∗ oBlk d b (x d))), xPts_blocks, oPts_blocks, ← bigSep_sep']

end Cert.VerbatimIdeal.Run

end
-- ==== Proof.Verb.Run.lean ====
/-
  The kernel's run: @main on the TensorCore — the table, the staged copy's region, the SparseCore copy, the corner's
  addition — over the ghost state the launch deals out, and what every final state holds.
-/
module

public import proofs.«01_k».proof.Proof.Verb.Host
public import proofs.«01_k».proof.Proof.Verb.Sc

@[expose] public section

set_option maxRecDepth 16384

noncomputable section

namespace Cert.VerbatimIdeal.Run

open Cert.VerbatimIdeal Cert.VerbatimIdeal.Gen
open Idealize.ShloMosaic Idealize.ShloMosaic.TcCoe Idealize.ShloMosaic.StableHlo
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds

/-- The floats: the extended reals, over which alone the table's words are known. -/
abbrev F : FTy → Type := Ideal

local notation "𝕄" => MT nD τ sig (HIx 1) (Elt F) ℕ UU ℕ

variable (m : (ℓ : Loc nD τ sig) → Buf (Elt F) ℓ) (ρ : Dev nD → PrngReg)

/-! ## The buffers' contents along @main -/

/-- At the launch. -/
def W0 (d : Dev nD) : Valuation τ sig (Elt F) := fun b => m (d, b)
/-- Before the region. -/
def W1 (d : Dev nD) : Valuation τ sig (Elt F) := after preOps (W0 m d)

/-- What the region is entered with. -/
def entry (d : Dev nD) : Entry F where
  x := W0 m d a0'
  o1 := W0 m d s9'
  o2 := W0 m d f9'
  tb := tab
  ok := tab_ok

/-- After the region. -/
def W2 (d : Dev nD) : Valuation τ sig (Elt F) :=
  Function.update (Function.update (W1 m d) s9' (slowOf (entry m d))) f9' (entry m d).x
/-- Before the SparseCore launch. -/
def W3 (d : Dev nD) : Valuation τ sig (Elt F) := after midOps (W2 m d)
/-- What the SparseCore copies. -/
def scIn (d : Dev nD) : Buf (Elt F) (xLoc d) := W3 m d x11'
/-- After the SparseCore launch. -/
def W4 (d : Dev nD) : Valuation τ sig (Elt F) := Function.update (W3 m d) o12' (show Buf (Elt F) (oLoc d) from scIn m d)
/-- At the end. -/
def W5 (d : Dev nD) : Valuation τ sig (Elt F) := after sufOps (W4 m d)

theorem W2_s9 (d : Dev nD) : W2 m d s9' = slowOf (entry m d) := by
  unfold W2
  rw [Function.update_of_ne (show s9' ≠ f9' from devRef_ne_of_ne (by decide)), Function.update_self]
theorem W2_f9 (d : Dev nD) : W2 m d f9' = (entry m d).x := by
  unfold W2
  rw [Function.update_self]
theorem W2_ne (d : Dev nD) (b : DevRef τ sig) (h : b ≠ s9') (h' : b ≠ f9') : W2 m d b = W1 m d b := by
  unfold W2
  rw [Function.update_of_ne h', Function.update_of_ne h]
theorem W2_a0 (d : Dev nD) : W2 m d a0' = W0 m d a0' := by
  rw [W2_ne m d a0' (devRef_ne_of_ne (by decide)) (devRef_ne_of_ne (by decide))]
  exact pre_a0 _
theorem W2_t8 (d : Dev nD) : W2 m d t8' = tab (F := F) := by
  rw [W2_ne m d t8' (devRef_ne_of_ne (by decide)) (devRef_ne_of_ne (by decide))]
  exact pre_tab _
theorem W4_o (d : Dev nD) : W4 m d o12' = (show Buf (Elt F) (oLoc d) from scIn m d) := by
  unfold W4
  rw [Function.update_self]
theorem W4_ne (d : Dev nD) (b : DevRef τ sig) (h : b ≠ o12') : W4 m d b = W3 m d b := by
  unfold W4
  rw [Function.update_of_ne h]

theorem W5_a0 (d : Dev nD) : W5 m d a0' = m ((SparseCore.T d : Thread nD τ).loc main_arg0) := by
  unfold W5
  rw [suf_a0, W4_ne m d a0' (devRef_ne_of_ne (by decide))]
  unfold W3
  rw [mid_a0, W2_a0, W0]
theorem W5_f9 (d : Dev nD) : W5 m d f9' = (entry m d).x := by
  unfold W5
  rw [suf_f9, W4_ne m d f9' (devRef_ne_of_ne (by decide))]
  unfold W3
  rw [mid_f9, W2_f9]
theorem W5_r21 (d : Dev nD) : W5 m d r21' = finalSlow (slowOf (entry m d)) (scIn m d) := by
  unfold W5
  rw [suf_r21, W4_o, W4_ne m d s9' (devRef_ne_of_ne (by decide))]
  unfold W3
  rw [mid_s9, W2_s9]

/-! ## Taking buffers out of the held set and putting them back -/

abbrev S4 : Finset (DevRef τ sig) := {a0', s9', f9', t8'}
abbrev S2 : Finset (DevRef τ sig) := {x11', o12'}
abbrev S3 : Finset (DevRef τ sig) := {a0', r21', f9'}

theorem S4_sub : S4 ⊆ Pipeline.ucRefs τ sig := by
  intro b hb
  rcases Finset.mem_insert.mp hb with rfl | hb
  · exact mem_uc _ (by decide)
  rcases Finset.mem_insert.mp hb with rfl | hb
  · exact mem_uc _ (by decide)
  rcases Finset.mem_insert.mp hb with rfl | hb
  · exact mem_uc _ (by decide)
  rw [Finset.mem_singleton.mp hb]
  exact mem_uc _ (by decide)
theorem S3_sub : S3 ⊆ Pipeline.ucRefs τ sig := by
  intro b hb
  rcases Finset.mem_insert.mp hb with rfl | hb
  · exact mem_uc _ (by decide)
  rcases Finset.mem_insert.mp hb with rfl | hb
  · exact mem_uc _ (by decide)
  rw [Finset.mem_singleton.mp hb]
  exact mem_uc _ (by decide)
theorem S2_sub : S2 ⊆ Pipeline.ucRefs τ sig := by
  intro b hb
  rcases Finset.mem_insert.mp hb with rfl | hb
  · exact mem_uc _ (by decide)
  rw [Finset.mem_singleton.mp hb]
  exact mem_uc _ (by decide)

theorem held_S4 (d : Dev nD) (V : Valuation τ sig (Elt F)) :
    (held (SparseCore.T d) S4 V : sProp 𝕄)
      = iprop(((SparseCore.T d : Thread nD τ).loc main_arg0 ↦{fullShare} V a0') ∗ ((SparseCore.T d : Thread nD τ).loc main_v6_0 ↦{fullShare} V s9')
        ∗ ((SparseCore.T d : Thread nD τ).loc main_v6_1 ↦{fullShare} V f9') ∗ ((SparseCore.T d : Thread nD τ).loc main_v5 ↦{fullShare} V t8')) := by
  unfold held S4
  rw [SparseCore.bigSep_insert' (by decide), SparseCore.bigSep_insert' (by decide), SparseCore.bigSep_insert' (by decide), bigSep_singleton]
theorem held_S3 (d : Dev nD) (V : Valuation τ sig (Elt F)) :
    (held (SparseCore.T d) S3 V : sProp 𝕄)
      = iprop(((SparseCore.T d : Thread nD τ).loc main_arg0 ↦{fullShare} V a0') ∗ ((SparseCore.T d : Thread nD τ).loc main_v18 ↦{fullShare} V r21')
        ∗ ((SparseCore.T d : Thread nD τ).loc main_v6_1 ↦{fullShare} V f9')) := by
  unfold held S3
  rw [SparseCore.bigSep_insert' (by decide), SparseCore.bigSep_insert' (by decide), bigSep_singleton]
theorem held_S2 (d : Dev nD) (V : Valuation τ sig (Elt F)) :
    (held (SparseCore.T d) S2 V : sProp 𝕄) = iprop((xLoc d ↦{fullShare} V x11') ∗ (oLoc d ↦{fullShare} V o12')) := by
  unfold held S2
  rw [SparseCore.bigSep_insert' (by decide), bigSep_singleton]

/-- Every unscoped buffer but the region's four. -/
abbrev rest1 (d : Dev nD) : sProp 𝕄 := held (SparseCore.T d) (Pipeline.ucRefs τ sig \ S4) (W1 m d)
/-- Every unscoped buffer but the SparseCore's two. -/
abbrev rest3 (d : Dev nD) : sProp 𝕄 := held (SparseCore.T d) (Pipeline.ucRefs τ sig \ S2) (W3 m d)

theorem out1 (d : Dev nD) : (held (SparseCore.T d) (Pipeline.ucRefs τ sig) (W1 m d) : sProp 𝕄)
    = iprop(four (entry m d) d (entry m d).o1 (entry m d).o2 ∗ rest1 m d) := by
  rw [held_sub_split _ S4_sub, held_S4]
  unfold W1
  rw [pre_a0, pre_s9, pre_f9, pre_tab]
  rfl
theorem in1 (d : Dev nD) : iprop(four (entry m d) d (slowOf (entry m d)) (entry m d).x ∗ rest1 m d)
    = (held (SparseCore.T d) (Pipeline.ucRefs τ sig) (W2 m d) : sProp 𝕄) := by
  rw [held_sub_split _ S4_sub (W2 m d), held_S4, W2_a0, W2_s9, W2_f9, W2_t8,
    held_congr (V := W2 m d) (V' := W1 m d) _ (fun b hb => W2_ne m d b
      (fun h => (Finset.mem_sdiff.mp hb).2 (by rw [h]; decide)) (fun h => (Finset.mem_sdiff.mp hb).2 (by rw [h]; decide)))]
  rfl
theorem out3 (d : Dev nD) : (held (SparseCore.T d) (Pipeline.ucRefs τ sig) (W3 m d) : sProp 𝕄)
    = iprop(((xLoc d ↦{fullShare} scIn m d) ∗ (oLoc d ↦{fullShare} W3 m d o12')) ∗ rest3 m d) := by
  rw [held_sub_split _ S2_sub, held_S2]
  rfl
theorem in3 (d : Dev nD) : iprop(((xLoc d ↦{fullShare} scIn m d) ∗ (oLoc d ↦{fullShare} (show Buf (Elt F) (oLoc d) from scIn m d))) ∗ rest3 m d)
    = (held (SparseCore.T d) (Pipeline.ucRefs τ sig) (W4 m d) : sProp 𝕄) := by
  rw [held_sub_split _ S2_sub (W4 m d), held_S2, W4_o, W4_ne m d x11' (devRef_ne_of_ne (by decide)),
    held_congr (V := W4 m d) (V' := W3 m d) _ (fun b hb => W4_ne m d b
      (fun h => (Finset.mem_sdiff.mp hb).2 (by rw [h]; decide)))]
  rfl

/-- What @main leaves the claims. -/
abbrev FIN (d : Dev nD) : sProp 𝕄 :=
  iprop(((SparseCore.T d : Thread nD τ).loc main_arg0 ↦{fullShare} m ((SparseCore.T d : Thread nD τ).loc main_arg0))
    ∗ ((SparseCore.T d : Thread nD τ).loc main_v18 ↦{fullShare} finalSlow (slowOf (entry m d)) (scIn m d))
    ∗ ((SparseCore.T d : Thread nD τ).loc main_v6_1 ↦{fullShare} (entry m d).x))

theorem out5 (d : Dev nD) : (held (SparseCore.T d) (Pipeline.ucRefs τ sig) (W5 m d) : sProp 𝕄) ⊢ FIN m d := by
  rw [held_sub_split _ S3_sub, held_S3, W5_a0, W5_f9, W5_r21]
  iintro ⟨H, -⟩
  iexact H

/-! ## The launch's ghost state -/

/-- The table is the same on every device. -/
abbrev e₀ : Entry F := entry m 0

/-- The region's cells and transfers, dealt to device `d`. -/
abbrev G (d : Dev nD) : sProp 𝕄 :=
  iprop(Pipeline.PerCore.cellsGhost (Pipeline.pinD pcfgs (adm (entry m d))) EP 0 d ∗ Pipeline.PerCore.toksInit (Pipeline.pinD pcfgs (adm (entry m d))) EP 0 d)

def u₀ : UU := (initOf (K (F := F)).hsCells (K (F := F)).hsToks,
  initOf (Pipeline.PerCore.cells (Pipeline.pinD pcfgs (adm (e₀ m))) (phinj (e₀ m)))
    (Pipeline.PerCore.launchToks (Pipeline.pinD pcfgs (adm (e₀ m))) (phinj (e₀ m))), 1)

theorem own_EP (a : UR) : (BI.own (((Emb.inl : Emb UR (UR × Counters)).trans embR) a) : sProp 𝕄) ⊢ BI.own (EP a) := by
  unfold EP
  exact BI.Entails.refl _

theorem adm_eq (d : Dev nD) : adm (entry m d) = adm (e₀ m) := rfl

theorem deal_ghost : iprop((bigSep Finset.univ fun c : Dev nD => bigSep Finset.univ fun p => Pipeline.PerCore.cellsGhost (Pipeline.pinD pcfgs (adm (e₀ m))) EP p c)
      ∗ (bigSep Finset.univ fun c : Dev nD => bigSep Finset.univ fun p => (Pipeline.PerCore.toksInit (Pipeline.pinD pcfgs (adm (e₀ m))) EP p c : sProp 𝕄)))
    ⊢ bigSep Finset.univ fun d : Dev nD => G m d := by
  rw [← bigSep_sep']
  refine bigSep_mono fun d _ => ?_
  rw [bigSep_univ_of_subsingleton (0 : Fin 1), bigSep_univ_of_subsingleton (0 : Fin 1)]
  exact BI.Entails.refl _

theorem hu₀ : (ownU (u₀ m) : sProp 𝕄)
    ⊢ |={Set.univ}=> iprop(BI.own (EH (initOf (K (F := F)).hsCells (K (F := F)).hsToks)) ∗ (bigSep Finset.univ fun d : Dev nD => G m d)
        ∗ bigSep Finset.univ fun thr : Thread nD τ => bigSep Finset.univ fun q : Fin 1 => (P (scIn m)).x q thr) := by
  unfold u₀
  iintro Hu
  ihave H := (ownU_pair _ _) $$ Hu
  icases H with ⟨HH, HR⟩
  ihave H2 := (own_pair_emb embR _ _) $$ HR
  icases H2 with ⟨HR, -⟩
  ihave HR := (own_EP _) $$ HR
  imod (Pipeline.PerCore.fund_ghost (Pipeline.pinD pcfgs (adm (e₀ m))) EP (phinj (e₀ m))) $$ HR with ⟨Hg, Ht⟩
  imodintro
  isplitl [HH]; · iexact HH
  isplitl [Hg Ht]
  · iapply (deal_ghost m)
    isplitl [Hg]; · iexact Hg
    iexact Ht
  rw [show (bigSep Finset.univ fun thr : Thread nD τ => bigSep Finset.univ fun q : Fin 1 => (P (scIn m)).x q thr) = (iprop(emp) : sProp 𝕄) from
    (bigSep_congr fun _ _ => bigSep_emp_const _).trans (bigSep_emp_const _)]
  iempintro

/-! ## @main on the TensorCore -/

variable [∀ e, Nonempty (Elt F e)]

/-- Before the launch the core holds what it owes, and the rest of its part of the handshakes. -/
theorem tcSt0_split (d : Dev nD) : ∃ R : sProp 𝕄, ((K (F := F)).tcSt EH d 0 : sProp 𝕄) = iprop(owed0 (F := F) d ∗ R) := ⟨_, rfl⟩

theorem hmain (κ : GSem nD τ sig → ℕ) (d : Dev nD) :
    iprop((K (F := F)).ctx EH (P (scIn m)) κ ∗ (K (F := F)).tcSt EH d 0 ∗ (K (F := F)).tcRes m ρ d ∗ G m d)
      ⊢ wp frame (wpE ((K (F := F)).defs (D (F := F))) 𝒱 (SparseCore.T d) none) Set.univ (main d)
          fun _ => iprop((K (F := F)).tcSt EH d 1 ∗ FIN m d ∗ (K (F := F)).tcEnd d) := by
  obtain ⟨R, hR⟩ := tcSt0_split d
  unfold SparseCore.Cfg.tcRes SparseCore.Cfg.tcEnd
  rw [show (unscopedBufs d (fun b => m ((SparseCore.T d).loc b)) : sProp 𝕄) = held (SparseCore.T d) (Pipeline.ucRefs τ sig) (W0 m d) from
    Pipeline.unscopedBufs_held d (W0 m d), main_eq, ← seq_bind_seqK]
  iintro ⟨#Hctx, Hst, ⟨Hb, Hheld, Hts, -⟩, Hg, Ht⟩
  iapply (wp_seq (defs := (K (F := F)).defs (D (F := F))) 𝒱 none Set.univ d (Pipeline.ucRefs τ sig) _ preOps
    (fun op h => Pipeline.sub_ucRefs op ((List.forall_iff_forall_mem.mp preOps_sub) op h)) preOps_fresh (W0 m d)) $$ [Hb Hheld]
  · isplitl [Hb] <;> iassumption
  iintro ⟨Hb, Hheld⟩
  rw [wp_bind]
  ihave Hst := (Entails.of_eq hR) $$ Hst
  icases Hst with ⟨Howe, Hrest⟩
  ihave Hh := (show held (d.tc : Thread nD τ) (Pipeline.ucRefs τ sig) (after preOps (W0 m d)) ⊢ _ from Entails.of_eq (out1 m d)) $$ Hheld
  icases Hh with ⟨Hfour, Hr1⟩
  ihave #Hlev := ((K (F := F)).ctx_levAts κ) $$ Hctx
  iapply (wp_region (entry m d) d _)
  isplitl [Hr1 Hrest Hts]
  · iintro ⟨Hb, Hfour, Howe⟩
    ihave Hheld := (Entails.of_eq (in1 m d)) $$ [Hfour Hr1]
    · isplitl [Hfour] <;> iassumption
    rw [← seq_bind_seqK]
    iapply (wp_seq (defs := (K (F := F)).defs (D (F := F))) 𝒱 none Set.univ d (Pipeline.ucRefs τ sig) _ midOps
      (fun op h => Pipeline.sub_ucRefs op ((List.forall_iff_forall_mem.mp midOps_sub) op h)) midOps_fresh (W2 m d)) $$ [Hb Hheld]
    · isplitl [Hb] <;> iassumption
    iintro ⟨Hb, Hheld⟩
    ihave Hh := (show held (d.tc : Thread nD τ) (Pipeline.ucRefs τ sig) (after midOps (W2 m d)) ⊢ _ from Entails.of_eq (out3 m d)) $$ Hheld
    icases Hh with ⟨⟨Hx, Ho⟩, Hr3⟩
    rw [wp_bind]
    iapply ((K (F := F)).wp_run (D (F := F)) 𝒱 (EH := EH) (P := P (scIn m)) κ d 0) $$ [Howe Hrest Hx Ho Hb Hr3 Hts]
    isplitr; · iexact Hctx
    isplitl [Howe Hrest]
    · iapply (Entails.of_eq hR.symm)
      isplitl [Howe] <;> iassumption
    isplitl [Hx Ho]
    · iapply (st_of_whole (scIn m) d _)
      isplitl [Hx] <;> iassumption
    iintro ⟨Hst, Hdn⟩
    ihave Hdn' := (whole_of_dn (scIn m) d) $$ Hdn
    ihave Hheld := (Entails.of_eq (in3 m d)) $$ [Hdn' Hr3]
    · isplitl [Hdn'] <;> iassumption
    rw [show (seq sufOps : Prog (TpuEff nD τ sig (Elt F) (SparseCore.Sig (ΛP (F := F)) 1) .tc) PUnit) = (seq sufOps >>= fun u => .ret u) from (bind_pure _).symm]
    iapply (wp_seq (defs := (K (F := F)).defs (D (F := F))) 𝒱 none Set.univ d (Pipeline.ucRefs τ sig) _ sufOps
      (fun op h => Pipeline.sub_ucRefs op ((List.forall_iff_forall_mem.mp sufOps_sub) op h)) sufOps_fresh (W4 m d)) $$ [Hb Hheld]
    · isplitl [Hb] <;> iassumption
    iintro ⟨Hb, Hheld⟩
    ihave HF := (show held (d.tc : Thread nD τ) (Pipeline.ucRefs τ sig) (after sufOps (W4 m d)) ⊢ _ from out5 m d) $$ Hheld
    rw [wp_ret]; imodintro
    isplitl [Hst]; · iexact Hst
    isplitl [HF]; · iexact HF
    isplitl [Hb] <;> iassumption
  isplitl [Hb]; · iexact Hb
  isplitl [Hfour Howe]
  · isplitl [Hfour] <;> iassumption
  isplitr; · iexact Hlev
  isplitl [Hg] <;> iassumption

/-- What the claims read of device `d`'s final state. -/
def fq (d : Dev nD) (s' : Phys nD τ sig (Elt F)) : Prop :=
  s'.mem.mem ((SparseCore.T d : Thread nD τ).loc main_arg0) = m ((SparseCore.T d : Thread nD τ).loc main_arg0)
    ∧ s'.mem.mem ((SparseCore.T d : Thread nD τ).loc main_v18) = finalSlow (slowOf (entry m d)) (scIn m d)
    ∧ s'.mem.mem ((SparseCore.T d : Thread nD τ).loc main_v6_1) = (entry m d).x

theorem hfin (d : Dev nD) (s' : Phys nD τ sig (Elt F)) : iprop(FIN m d ∗ SI s') ⊢ (⌜fq m d s'⌝ : sProp 𝕄) := by
  iintro ⟨⟨Ha, Hr, Hf⟩, HSI⟩
  ihave H := (persistent_entails_right (SI_pointsTo_agree (st := s') (ℓ := (SparseCore.T d : Thread nD τ).loc main_arg0) (I := Finset.univ) (q := fullShare)
    (f := m ((SparseCore.T d : Thread nD τ).loc main_arg0)))) $$ [HSI Ha]
  · isplitl [HSI] <;> iassumption
  icases H with ⟨%ha, HSI, -⟩
  ihave H := (persistent_entails_right (SI_pointsTo_agree (st := s') (ℓ := (SparseCore.T d : Thread nD τ).loc main_v18) (I := Finset.univ) (q := fullShare)
    (f := finalSlow (slowOf (entry m d)) (scIn m d)))) $$ [HSI Hr]
  · isplitl [HSI] <;> iassumption
  icases H with ⟨%hr, HSI, -⟩
  ihave H := (SI_pointsTo_agree (st := s') (ℓ := (SparseCore.T d : Thread nD τ).loc main_v6_1) (I := Finset.univ) (q := fullShare) (f := (entry m d).x)) $$ [HSI Hf]
  · isplitl [HSI] <;> iassumption
  icases H with %hf
  ipureintro
  exact ⟨funext fun i => ha i (Finset.mem_univ i), funext fun i => hr i (Finset.mem_univ i), funext fun i => hf i (Finset.mem_univ i)⟩

/-! ## The program's run -/

def QC : PUnit × MemSt nD τ sig (Elt F) → Prop := fun r =>
  (∀ c : Dev nD, r.2.mem ((SparseCore.T c : Thread nD τ).loc main_arg0) = m ((SparseCore.T c : Thread nD τ).loc main_arg0)
    ∧ r.2.mem ((SparseCore.T c : Thread nD τ).loc main_v18) = finalSlow (slowOf (entry m c)) (scIn m c)
    ∧ r.2.mem ((SparseCore.T c : Thread nD τ).loc main_v6_1) = (entry m c).x) ∧ r.2.sem = fun _ => 0

/-- Every execution of the kernel from a memory with zero counters ends, nothing faulting, its counters at zero again,
    the argument unchanged and the two results at these contents. -/
theorem run_main : θ_run (defs (F := F)) (threads (F := F)) ⟨m, fun _ => 0, ρ⟩ (QC m) :=
  SparseCore.Cfg.θ_run_sc_quiescent (K := K (F := F)) (D := D (F := F)) (𝒱 := 𝒱) (EH := EH) (P := P (scIn m)) (A := ∅) scFacts v₀
    (fun q hq => match q with | 0 => nomatch hq)
    (fun q _ => match q with | 0 => tileObl (scIn m))
    (fun q _ => match q with | 0 => SparseCore.Cfg.VecSplit.of_plain (vecSplit (scIn m)))
    m ρ main (G m) (FIN m) (u₀ m) (sep_elim_left.trans (hu₀ m)) (hmain m ρ) (fq m) (hfin m) (QC m) (fun _ h hz => ⟨h, hz⟩)

end Cert.VerbatimIdeal.Run

end
-- ==== Proof.Verb.Value.lean ====
/-
  The value over the extended reals of the kernel with its own table: adding the empty probe changes nothing, and each
  group's frame is the one the reference takes.
-/
module

public import proofs.«01_k».proof.Proof.Verb.Run
public import proofs.«01_k».proof.Proof.RefValue

@[expose] public section

set_option maxRecDepth 16384

noncomputable section

namespace Cert.VerbatimIdeal.Run

open Cert.VerbatimIdeal Cert.VerbatimIdeal.Gen
open Idealize.ShloMosaic Idealize.ShloMosaic.TcCoe Idealize.SL.Sem

/-- The probe is zero. -/
theorem probe_zero (o : S768x4096.Idx → Elt Ideal .f32) : probe (F := Ideal) o = fun _ => (0 : EReal) := by
  funext j
  show (_ : EReal) * Ideal.ofBits .f32 0x00000000#32 = 0
  rw [Ideal.ofBits_zero_f32, mul_zero]

/-- Adding zeros at some places changes no place. -/
theorem scatter_zero (s : S3x16x256x256.Idx → Elt Ideal .f32) (i : Cert.VerbatimIdeal.S4.Idx → Elt Ideal .i32) :
    Host.scatter scatter_S3x16x256x256_S4_S__n_0123_0123_0 (FloatOps.addf (F := Ideal) (φ := .f32)) s i (fun _ => (0 : EReal)) = s := by
  unfold Host.scatter
  refine List.foldlRecOn (motive := fun r => r = s) _ _ rfl fun r hr k _ => ?_
  subst hr
  dsimp only
  split
  · funext q
    split
    · next h => subst h; exact add_zero (r q : EReal)
    · rfl
  · rfl

theorem final_eq (s : S3x16x256x256.Idx → Elt Ideal .f32) (o : S768x4096.Idx → Elt Ideal .f32) : finalSlow s o = s := by
  unfold finalSlow
  rw [probe_zero]
  exact scatter_zero s _

/-- The frame the table points at. -/
theorem tab_frame (k : Fin 16) : 4 * k.val + ((tab (F := Ideal)) (ix1 k)).toNat % 4 = 63 * k.val / 15 := by
  rw [tab_eq]
  revert k
  decide +kernel

variable (m : (ℓ : Loc nD τ sig) → Buf (Elt Ideal) ℓ)

theorem slow_eq (d : Dev nD) : slowOf (entry m d) = fun j => (entry m d).x (Cert.ReferenceIdeal.Run.source j) := by
  funext j
  unfold slowOf
  congr 1
  funext a
  match a with
  | 0 => rfl
  | 1 => exact Fin.ext (tab_frame (j 1))
  | 2 => rfl
  | 3 => rfl

end Cert.VerbatimIdeal.Run

end
-- ==== Proof.Same.lean ====
/-
  The program's text is its idealization's: one body table and one @main, whichever module names them.
-/
module

public import proofs.«01_k».proof.Defs
public import proofs.«01_k».proof.Proof.Gen.Kernel
public import proofs.«01_k».proof.Proof.Gen.KernelIdeal

@[expose] public section

set_option maxRecDepth 16384

noncomputable section

namespace Cert.Same

open Idealize.ShloMosaic Idealize.SL.Sem

variable {F : FTy → Type} [FloatOps F]

/-- The kernels' bodies, processor by processor. -/
theorem bodies_eq : Cert.Kernel.defs₀ (F := F) = Cert.KernelIdeal.defs₀ (F := F) := by
  funext p l a
  match p, l, a with
  | .tc, 0, (t, s) => rfl
  | .tc, 1, a => rfl
  | .scVector c s, 0, _ => rfl
  | .scVector c s, 1, _ => rfl
  | .scScalar c, 0, _ => rfl
  | .scScalar c, 1, _ => rfl

theorem defs_eq : Cert.Kernel.defs (F := F) = Cert.KernelIdeal.defs (F := F) :=
  congrArg (fun e => SparseCore.Cfg.defs (Cert.KernelIdeal.sc (F := F)) (Pipeline.defs Cert.KernelIdeal.pcfgs e)) bodies_eq

set_option maxHeartbeats 6000000 in
theorem main_eq (d : Dev Cert.Kernel.nD) : Cert.Kernel.main (F := F) d = Cert.KernelIdeal.main (F := F) d := rfl

theorem threads_eq : Cert.Kernel.threads (F := F) = Cert.KernelIdeal.threads (F := F) :=
  congrArg (SparseCore.Cfg.threads (Cert.KernelIdeal.sc (F := F))) (funext main_eq)

end Cert.Same

end
-- ==== Proof.Rows.Base.lean ====
/-
  What every part of the proof of the SparseCore call alone shares: the program as the SparseCore launch theorem sees
  it, the ghost components (the handshakes' rounds, the transfers' counters), and the names of the HBM buffers it copies
  between.
-/
module

public import proofs.«01_k».proof.Defs
public import Idealize.ShloMosaic.Lib.SparseCore.Quiescent
public import Idealize.ShloMosaic.Lib.SparseCore.Ops
public import Idealize.ShloMosaic.Lib.StableHlo.Run
public import Idealize.ShloMosaic.Lib.Pipeline.Kit
public import Idealize.ShloMosaic.Lib.Pipeline.Regions
public import Idealize.ShloMosaic.Lib.Pipeline.Frame
public import Idealize.ShloMosaic.Lib.Tactic
public import proofs.«01_k».proof.Proof.Gen.RowsIdeal
public import proofs.«01_k».proof.Proof.Gen.RowsIdeal.Skeleton

@[expose] public section

noncomputable section

namespace Cert.RowsIdeal.Run

open Cert.RowsIdeal Cert.RowsIdeal.Gen
open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- The labels below the launches: the bodies; no pipeline stands beside them. -/
abbrev ΛP : Labels := Pipeline.Sig Λ₀ (Fin 0) fun p => (pcfgs (F := F) p).Adm
/-- The SparseCore launch configuration. -/
abbrev K : SparseCore.Cfg τ sig (ΛP (F := F)) 1 := sc (F := F)
/-- The program's definitions below the SparseCore launches. -/
abbrev D : Defs nD τ sig (Elt F) (ΛP (F := F)) := Pipeline.defs pcfgs defs₀
/-- The kernels' own functions call nothing. -/
abbrev 𝒱₀ : Variants := Variants.none
abbrev 𝒱 : Variants := 𝒱₀.lift
abbrev v₀ : 𝒱.V := Sum.inl none

theorem scFacts : (K (F := F)).Facts where
  start_ne_taskDone := show sc_start ≠ sc_taskDone by decide
  start_unscoped := show (SemLoc.reg sc_start : SemLoc sig).isScoped .scScalar = false by decide
  taskDone_unscoped := show (SemLoc.reg sc_taskDone : SemLoc sig).isScoped .scScalar = false by decide
  go_unscoped := show (SemLoc.reg sc_go : SemLoc sig).isScoped .scVector = false by decide
  done_unscoped := show (SemLoc.reg sc_done : SemLoc sig).isScoped .tc = false by decide
  noTaskShared := show ∀ (b : DevRef τ sig) (c : Fin τ.nSC), b.owner = .sc c → sig.taskShared b.table b.idx = false by decide
  noSeq := fun _ => rfl

/-- The handshakes' rounds, the local transfers' counters. -/
abbrev UH : Type := URounds (GSem nD τ sig) ℕ
abbrev UU : Type := UH × Counters

abbrev EH : Emb UH (MT nD τ sig (HIx 1) (Elt F) ℕ UU ℕ) := embL

/-- The TensorCore's names of the HBM buffers the SparseCore kernel copies between. -/
abbrev xLoc (d : Dev nD) : Loc nD τ sig := (SparseCore.T d).loc main_v1
abbrev oLoc (d : Dev nD) : Loc nD τ sig := (SparseCore.T d).loc main_v2

end Cert.RowsIdeal.Run

end
-- ==== Proof.Rows.Sc.lean ====
/-
  The SparseCore kernel: thirty-two vector subcores, subcore `s` of SparseCore `c` fetching rows `24·(2s + c)` to
  `24·(2s + c) + 24` of the 768×4096 source into its vector memory and writing them to the same rows of the
  destination. The body is run once, at a symbolic subcore, with the VALUE carried: the rows written are the source's.
-/
module

public import proofs.«01_k».proof.Proof.Rows.Base

@[expose] public section

noncomputable section

namespace Cert.RowsIdeal.Run

open Cert.RowsIdeal Cert.RowsIdeal.Gen
open Idealize.ShloMosaic
open Idealize.ShloMosaic.SparseCore (S V)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

/-! ## The rows of each subcore -/

theorem rows_dvd : 32 ∣ S768x4096.size 0 := ⟨24, rfl⟩
/-- Block `b` of the thirty-two blocks of 24 rows. -/
abbrev rowsOf (b : Fin 32) : Rect S768x4096 := Rect.part (s := S768x4096) (a₀ := 0) rows_dvd b
/-- Subcore `s` of SparseCore `c` has block `2s + c`. -/
def blk (c : Fin 2) (s : Fin 16) : Fin 32 := ⟨2 * s.val + c.val, by omega⟩

/-- The source, the destination and the vector memory, as the subcore addresses them. -/
abbrev xM : Memref sig .scVector .hbm S768x4096 .f32 := Memref.whole main_v1_scv
abbrev oM : Memref sig .scVector .hbm S768x4096 .f32 := Memref.whole main_v2_scv
abbrev sM : Memref sig .scVector .vmem S24x4096 .f32 := Memref.whole cc0_scratch0

abbrev rowSet (b : Fin 32) : Finset S768x4096.Idx := (rowsOf b).set

/-- Block `b` of the source at `x`, held whole. -/
abbrev xBlk (x : (d : Dev nD) → Buf (Elt F) (xLoc d)) (d : Dev nD) (b : Fin 32) : sProp 𝕄 := xLoc d ↦[rowSet b]{fullShare} x d
/-- Block `b` of the destination at `f`. -/
abbrev oBlk (d : Dev nD) (b : Fin 32) (f : Buf (Elt F) (oLoc d)) : sProp 𝕄 := oLoc d ↦[rowSet b]{fullShare} f

theorem nSub_eq : (K (F := F)).nSub 0 = 16 := rfl
theorem nCore_eq : (K (F := F)).nCore 0 = 2 := rfl

/-- What the call hands over and takes back: a subcore gets its block of the source, at `x`, and of the destination, at
    anything; it returns the destination's block AT THE SOURCE'S CONTENTS. -/
def P (x : (d : Dev nD) → Buf (Elt F) (xLoc d)) : (K (F := F)).Pay (nD := nD) (Val := Elt F) (Name := ℕ) (U := UU) where
  st := fun q d c => match q with
    | 0 => bigSep Finset.univ fun s : Fin 16 => iprop(xBlk x d (blk (Fin.cast nCore_eq c) s) ∗ ∃ f, oBlk d (blk (Fin.cast nCore_eq c) s) f)
  dn := fun q d c => match q with
    | 0 => bigSep Finset.univ fun s : Fin 16 => iprop(xBlk x d (blk (Fin.cast nCore_eq c) s) ∗ oBlk d (blk (Fin.cast nCore_eq c) s) (x d))
  go := fun q d c i => match q with
    | 0 => iprop(xBlk x d (blk (Fin.cast nCore_eq c) (Fin.cast nSub_eq i)) ∗ ∃ f, oBlk d (blk (Fin.cast nCore_eq c) (Fin.cast nSub_eq i)) f)
  td := fun q d c i => match q with
    | 0 => iprop(xBlk x d (blk (Fin.cast nCore_eq c) (Fin.cast nSub_eq i)) ∗ oBlk d (blk (Fin.cast nCore_eq c) (Fin.cast nSub_eq i)) (x d))
  x := fun _ _ => iprop(emp)

instance P_storable (x : (d : Dev nD) → Buf (Elt F) (xLoc d)) : (P (F := F) x).IsStorable where
  st q d c := match q with
    | 0 => (inferInstance : BI.Storable (upEmb : UEmb _ 𝕄)
      (bigSep Finset.univ fun s : Fin 16 => iprop(xBlk x d (blk (Fin.cast nCore_eq c) s) ∗ ∃ f, oBlk d (blk (Fin.cast nCore_eq c) s) f)))
  dn q d c := match q with
    | 0 => (inferInstance : BI.Storable (upEmb : UEmb _ 𝕄)
      (bigSep Finset.univ fun s : Fin 16 => iprop(xBlk x d (blk (Fin.cast nCore_eq c) s) ∗ oBlk d (blk (Fin.cast nCore_eq c) s) (x d))))
  go q d c i := match q with
    | 0 => (inferInstance : BI.Storable (upEmb : UEmb _ 𝕄)
      iprop(xBlk x d (blk (Fin.cast nCore_eq c) (Fin.cast nSub_eq i)) ∗ ∃ f, oBlk d (blk (Fin.cast nCore_eq c) (Fin.cast nSub_eq i)) f))
  td q d c i := match q with
    | 0 => (inferInstance : BI.Storable (upEmb : UEmb _ 𝕄)
      iprop(xBlk x d (blk (Fin.cast nCore_eq c) (Fin.cast nSub_eq i)) ∗ oBlk d (blk (Fin.cast nCore_eq c) (Fin.cast nSub_eq i)) (x d)))

/-! ## One subcore's task -/

section Tile

variable (d : Dev nD) (L : grid0.Coords)

abbrev cV : Fin τ.nSC := (L 0).castLE hcore0
abbrev jV : Fin τ.nSub := (L 1).castLE hsub0
abbrev bL : Fin 32 := blk (L 0) (L 1)
/-- The thread. -/
abbrev thrV : Thread nD τ := V d (cV L) (jV L)

/-- The rows the body slices out. -/
abbrev rowsK : Rect S768x4096 := Rect.unit (s := S768x4096) (k0_off1 L) S24x4096.size (k0_off1_inb L)
abbrev xRows : Memref sig .scVector .hbm S24x4096 .f32 := (xM).slice (rowsK L) (fun _ => rfl)
abbrev oRows : Memref sig .scVector .hbm S24x4096 .f32 := (oM).slice (rowsK L) (fun _ => rfl)

theorem rowsK_eq : rowsK L = rowsOf (bL L) := by
  unfold rowsK rowsOf Rect.part Rect.block
  congr 1 <;> funext a
  · rw [k0_off1_eq]
    match a with
    | 0 => simp only [Shape.partIx, Shape.partSize, bL, blk]; simp; ring
    | 1 => simp [Shape.partIx, Shape.partSize]
  · match a with
    | 0 => simp [Shape.partSize]
    | 1 => simp [Shape.partSize]

theorem set_xRows : (xRows L).view.set = rowSet (bL L) := (View.set_slice_whole _ _).trans (by rw [rowsK_eq])
theorem set_oRows : (oRows L).view.set = rowSet (bL L) := (View.set_slice_whole _ _).trans (by rw [rowsK_eq])

theorem pts_xRows (f : Buf (Elt F) (xLoc d)) :
    ((xRows L).view.loc (thrV d L) ↦[(xRows L).view.set]{fullShare} f : sProp 𝕄) = xLoc d ↦[rowSet (bL L)]{fullShare} f := by
  rw [set_xRows]
theorem pts_oRows (f : Buf (Elt F) (oLoc d)) :
    ((oRows L).view.loc (thrV d L) ↦[(oRows L).view.set]{fullShare} f : sProp 𝕄) = oLoc d ↦[rowSet (bL L)]{fullShare} f := by
  rw [set_oRows]
theorem pts_sM (f : Buf (Elt F) ((thrV d L).loc cc0_scratch0)) :
    ((sM).view.loc (thrV d L) ↦{fullShare} f : sProp 𝕄) = (thrV d L).loc cc0_scratch0 ↦{fullShare} f := rfl

/-- The two transfers' completion cells. -/
abbrev inCell (d : Dev nD) (c : Fin τ.nSC) (i : Fin τ.nSub) : GSem nD τ sig := (V d c i, .dma cc0_scoped0.sem)
abbrev outCell (d : Dev nD) (c : Fin τ.nSC) (i : Fin τ.nSub) : GSem nD τ sig := (V d c i, .dma cc0_scoped1.sem)

theorem ownSems0_cells :
    (ownSems0 (thrV d L) : sProp 𝕄)
      = iprop(semVal (inCell d (cV L) (jV L)) 0 ∗ semVal (outCell d (cV L) (jV L)) 0
          ∗ bigSep (((ownCells (thrV d L)).erase (inCell d (cV L) (jV L))).erase (outCell d (cV L) (jV L))) fun g => semVal g 0) := by
  unfold SparseCore.Cfg.ownSems0
  rw [SparseCore.bigSep_erase' ((mem_ownCells (g := inCell d (cV L) (jV L))).mpr ⟨rfl, by
      show (SemLoc.dma cc0_scoped0.sem : SemLoc sig).isScoped .scVector = true; decide⟩),
    SparseCore.bigSep_erase' (Finset.mem_erase.mpr ⟨by simp [inCell, outCell]; decide, (mem_ownCells (g := outCell d (cV L) (jV L))).mpr ⟨rfl, by
      show (SemLoc.dma cc0_scoped1.sem : SemLoc sig).isScoped .scVector = true; decide⟩⟩)]

theorem ownBufs_scratch :
    (ownBufs (thrV d L) : sProp 𝕄)
      = iprop((∃ f, (thrV d L).loc cc0_scratch0 ↦{fullShare} f)
          ∗ bigSep ((ownRefs (τ := τ) (.scVector (cV L) (jV L))).erase ((Proc.scVector (cV L) (jV L)).devRef cc0_scratch0))
              fun b => iprop(∃ f, ((d, b) : Loc nD τ sig) ↦{fullShare} f)) := by
  unfold SparseCore.Cfg.ownBufs
  exact SparseCore.bigSep_erase' (SparseCore.Cfg.mem_ownRefs_of_owner (p := Proc.scVector (cV L) (jV L))
    (b := (Proc.scVector (cV L) (jV L)).devRef cc0_scratch0) rfl)

/-- Rows written with what was read at the same rows of the source are the source there. -/
theorem rows_written (x : Buf (Elt F) (xLoc d)) (f : Buf (Elt F) (oLoc d)) (pay : S24x4096.Idx → Elt F .f32)
    (hpay : pay = (xRows L).view.read (Elt F) x) :
    ∀ i ∈ (oRows L).view.set,
      (oRows L).view.writes (Elt F) f [(⟨Rect.whole S24x4096, pay⟩ : View.Piece (Elt F) S24x4096 .f32)] i = x i := by
  subst hpay
  intro i hi
  obtain ⟨j, -, rfl⟩ := Finset.mem_map.mp hi
  have he : (oRows L).view.emb j = ((oRows L).view.slice (Rect.whole S24x4096)).emb j :=
    congrArg (oRows L).view.emb (Rect.emb_whole_apply S24x4096 j).symm
  rw [View.writes_singleton, he, View.write_emb_of_mem _ _ (Finset.mem_univ j), ← he, View.read_apply]
  rfl

set_option maxHeartbeats 4000000 in
/-- The task of the subcore at `L`: the rows in, their wait, the rows out, their wait. -/
theorem tile_body (x : (d : Dev nD) → Buf (Elt F) (xLoc d)) (hF : (K (F := F)).Facts) (O : CellTallies nD τ sig (HIx 1))
    (W : Waits sig (HIx 1)) (hO : ∀ g, O g none = 0) :
    iprop(levAts (K (F := F)).L (K (F := F)).lev ∗ emp ∗ (xBlk x d (bL L) ∗ ∃ f, oBlk d (bL L) f)
        ∗ scopedBufs (thrV d L) ∗ scopedSems0 (thrV d L) ∗ owes (thrV d L) O W)
      ⊢ wp frame (wpE (defs₀ (F := F)) 𝒱₀ (thrV d L) none) Set.univ
          (cc0_lin_k L xM (Memref.isWhole_whole _) oM (Memref.isWhole_whole _) sM (Memref.isWhole_whole _) cc0_scoped0 cc0_scoped1)
          fun _ => iprop((xBlk x d (bL L) ∗ oBlk d (bL L) (x d)) ∗ scopedBufs (thrV d L) ∗ scopedSems0 (thrV d L)
            ∗ ∃ W', ⌜∀ p ∈ W', p ∈ W ∨ p.2 = none⌝ ∗ owes (thrV d L) O W') := by
  simp only [cc0_lin_k_eq_skeleton]; unfold cc0_lin_k_skel
  rw [(K (F := F)).scopedBufs_V hF d (cV L) (jV L), SparseCore.Cfg.scopedSems0_V (Val := Elt F) d (cV L) (jV L), ownSems0_cells, ownBufs_scratch]
  iintro ⟨#Hlv, -, ⟨Hx, ⟨%fo, Ho⟩⟩, ⟨⟨%fs, Hs⟩, Hbufs⟩, ⟨Hin, Hout, Hsems⟩, HO⟩
  ihave Hmw := (show levAts (K (F := F)).L (K (F := F)).lev ⊢ Transfers.MayWaits (thrV d L) (default : HIx 1) O from
    (K (F := F)).mayWaits_none (thr := thrV d L) hO) $$ Hlv
  ihave Hx' := (Entails.of_eq (pts_xRows (F := F) d L _).symm) $$ Hx
  ihave Ho' := (Entails.of_eq (pts_oRows (F := F) d L _).symm) $$ Ho
  ihave Hs' := (Entails.of_eq (pts_sM (F := F) d L _).symm) $$ Hs
  sl_exec
  sl_step
  have hpay : tile_body.sl.dma0_1 d L x fs = (xRows L).view.read (Elt F) (x d) := by
    unfold tile_body.sl.dma0_1 tile_body.sl.dma0
    rw [ReadAs.apply_same, ReadAs.apply_same, View.write_whole_univ]
    rfl
  ihave Ho'' := (show _ ⊢ _ from Entails.of_eq ((pointsTo_congr (rows_written d L (x d) fo (tile_body.sl.dma0_1 d L x fs) hpay)).trans (pts_oRows (F := F) d L (x d)))) $$ Ho'
  ihave Hx'' := (show _ ⊢ _ from Entails.of_eq (pts_xRows (F := F) d L (x d))) $$ Hx'
  isplitl [Hx'' Ho'']
  · isplitl [Hx'']; · iexact Hx''
    iexact Ho''
  isplitl [Hs' Hbufs]
  · isplitl [Hs']; · iexists _; iexact Hs'
    iexact Hbufs
  isplitl [Hin Hout Hsems]
  · isplitl [Hin]; · iexact Hin
    isplitl [Hout]; · iexact Hout
    iexact Hsems
  iexists _; isplitr
  swap; · iexact HO
  ipureintro; intro p hp
  rcases Finset.mem_insert.mp hp with hp | hp; · exact .inr (hp ▸ rfl)
  rcases Finset.mem_insert.mp hp with hp | hp; · exact .inr (hp ▸ rfl)
  exact .inl hp

end Tile

/-! ## The obligation -/

def coordsV (c : Fin (grid0.bound 0)) (s : Fin (grid0.bound 1)) : grid0.Coords :=
  fun | 0 => c | 1 => s | ⟨_ + 2, h⟩ => absurd h (Nat.not_lt.2 (Nat.le_add_left _ _))

theorem defs₀_vector (c : Fin τ.nSC) (s : Fin τ.nSub) :
    defs₀ (F := F) (.scVector c s) 0 ()
      = SparseCore.onTile hcore0 hsub0 (fun c s => cc0_lin_k (coordsV c s)
          xM (Memref.isWhole_whole _) oM (Memref.isWhole_whole _) sM (Memref.isWhole_whole _) cc0_scoped0 cc0_scoped1) ⟨⟩ c s := rfl

omit [FloatOps F] in
/-- The waits recorded carry no height, so they are within what the call allows. -/
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

theorem tileObl (x : (d : Dev nD) → Buf (Elt F) (xLoc d)) : (K (F := F)).TileObl (D (F := F)) 𝒱 (P x) v₀ 0 := by
  intro d c i O W hO _ _
  simp only [show (P (F := F) x).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact (tile_body d (coordsV ⟨_, hci.1⟩ ⟨_, hci.2⟩) x scFacts O W hO).trans (wp_mono frame _ _ fun _ => obl_post)

/-! ## A core's operands are its subcores' -/

theorem bigSep_tasks (Φ : Fin 16 → sProp 𝕄) :
    (bigSep Finset.univ fun i : Fin ((K (F := F)).nSub 0) => Φ (Fin.cast nSub_eq i)) = bigSep Finset.univ Φ :=
  bigSep_congr fun _ _ => congrArg Φ (Fin.ext rfl)

theorem vecSplit (x : (d : Dev nD) → Buf (Elt F) (xLoc d)) : (K (F := F)).VecSplit' (P x) 0 := by
  intro d c
  show (bigSep Finset.univ fun s : Fin 16 => iprop(xBlk x d (blk (Fin.cast nCore_eq c) s) ∗ ∃ f, oBlk d (blk (Fin.cast nCore_eq c) s) f))
    ⊢ |={Set.univ}=> iprop(
      (bigSep Finset.univ fun i : Fin ((K (F := F)).nSub 0) =>
        iprop(xBlk x d (blk (Fin.cast nCore_eq c) (Fin.cast nSub_eq i)) ∗ ∃ f, oBlk d (blk (Fin.cast nCore_eq c) (Fin.cast nSub_eq i)) f))
      ∗ ((bigSep Finset.univ fun i : Fin ((K (F := F)).nSub 0) =>
          iprop(xBlk x d (blk (Fin.cast nCore_eq c) (Fin.cast nSub_eq i)) ∗ oBlk d (blk (Fin.cast nCore_eq c) (Fin.cast nSub_eq i)) (x d)))
        -∗ bigSep Finset.univ fun s : Fin 16 => iprop(xBlk x d (blk (Fin.cast nCore_eq c) s) ∗ oBlk d (blk (Fin.cast nCore_eq c) s) (x d))))
  rw [bigSep_tasks (F := F) (fun s => iprop(xBlk x d (blk (Fin.cast nCore_eq c) s) ∗ ∃ f, oBlk d (blk (Fin.cast nCore_eq c) s) f)),
    bigSep_tasks (F := F) (fun s => iprop(xBlk x d (blk (Fin.cast nCore_eq c) s) ∗ oBlk d (blk (Fin.cast nCore_eq c) s) (x d)))]
  iintro H; imodintro
  isplitl [H]; · iexact H
  iintro H; iexact H

/-! ## The whole buffers are their blocks -/

/-- Every block is some subcore's, once. -/
def blkEquiv : Fin 2 × Fin 16 ≃ Fin 32 where
  toFun p := blk p.1 p.2
  invFun b := (⟨b.val % 2, by omega⟩, ⟨b.val / 2, by omega⟩)
  left_inv p := by
    obtain ⟨c, s⟩ := p
    refine Prod.ext (Fin.ext ?_) (Fin.ext ?_) <;> simp [blk] <;> omega
  right_inv b := by apply Fin.ext; simp [blk]; omega

theorem rows_disjoint : ∀ i ∈ (Finset.univ : Finset (Fin 32)), ∀ j ∈ (Finset.univ : Finset (Fin 32)), i ≠ j → Disjoint (rowSet i) (rowSet j) :=
  fun _ _ _ _ h => Rect.part_disjoint rows_dvd h
theorem rows_cover : (Finset.univ : Finset (Fin 32)).biUnion rowSet = Finset.univ := Rect.biUnion_part rows_dvd

omit [FloatOps F] in
theorem xPts_blocks (d : Dev nD) (f : Buf (Elt F) (xLoc d)) :
    (xLoc d ↦{fullShare} f : sProp 𝕄) = bigSep Finset.univ fun i : Fin 32 => xLoc d ↦[rowSet i]{fullShare} f := by
  rw [← pointsTo_biUnion Finset.univ (ℓ := xLoc d) rowSet rows_disjoint, rows_cover]
omit [FloatOps F] in
theorem oPts_blocks (d : Dev nD) (f : Buf (Elt F) (oLoc d)) :
    (oLoc d ↦{fullShare} f : sProp 𝕄) = bigSep Finset.univ fun i : Fin 32 => oLoc d ↦[rowSet i]{fullShare} f := by
  rw [← pointsTo_biUnion Finset.univ (ℓ := oLoc d) rowSet rows_disjoint, rows_cover]

/-- A family over the blocks, by SparseCore and subcore. -/
theorem bigSep_blocks (Φ : Fin 32 → sProp 𝕄) :
    (bigSep Finset.univ fun c : Fin ((K (F := F)).nCore 0) => bigSep Finset.univ fun s : Fin 16 => Φ (blk (Fin.cast nCore_eq c) s))
      = bigSep Finset.univ Φ := by
  rw [bigSep_univ_equiv blkEquiv Φ, bigSep_univ_prod]
  exact bigSep_congr fun _ _ => bigSep_congr fun _ _ => rfl

theorem blk_any (x : (d : Dev nD) → Buf (Elt F) (xLoc d)) (d : Dev nD) (b : Fin 32) (f : Buf (Elt F) (oLoc d)) :
    iprop(xBlk x d b ∗ oBlk d b f) ⊢ (iprop(xBlk x d b ∗ ∃ f, oBlk d b f) : sProp 𝕄) := by
  iintro ⟨H1, H2⟩
  isplitl [H1]; · iexact H1
  iexists f; iexact H2

/-- What the call needs, out of the two whole buffers. -/
theorem st_of_whole (x : (d : Dev nD) → Buf (Elt F) (xLoc d)) (d : Dev nD) (f : Buf (Elt F) (oLoc d)) :
    iprop((xLoc d ↦{fullShare} x d) ∗ oLoc d ↦{fullShare} f)
      ⊢ (bigSep Finset.univ fun c : Fin ((K (F := F)).nCore 0) => (P x).st 0 d c : sProp 𝕄) := by
  show _ ⊢ bigSep Finset.univ fun c : Fin ((K (F := F)).nCore 0) =>
    bigSep Finset.univ fun s : Fin 16 => iprop(xBlk x d (blk (Fin.cast nCore_eq c) s) ∗ ∃ f, oBlk d (blk (Fin.cast nCore_eq c) s) f)
  rw [bigSep_blocks (F := F) (fun b => iprop(xBlk x d b ∗ ∃ f, oBlk d b f)), xPts_blocks, oPts_blocks, ← bigSep_sep']
  exact bigSep_mono fun b _ => blk_any x d b f

/-- What the call returns: the destination at the source's contents. -/
theorem whole_of_dn (x : (d : Dev nD) → Buf (Elt F) (xLoc d)) (d : Dev nD) :
    (bigSep Finset.univ fun c : Fin ((K (F := F)).nCore 0) => (P x).dn 0 d c : sProp 𝕄)
      ⊢ iprop((xLoc d ↦{fullShare} x d) ∗ oLoc d ↦{fullShare} (show Buf (Elt F) (oLoc d) from x d)) := by
  show (bigSep Finset.univ fun c : Fin ((K (F := F)).nCore 0) =>
    bigSep Finset.univ fun s : Fin 16 => iprop(xBlk x d (blk (Fin.cast nCore_eq c) s) ∗ oBlk d (blk (Fin.cast nCore_eq c) s) (x d))) ⊢ _
  rw [bigSep_blocks (F := F) (fun b => iprop(xBlk x d b ∗ oBlk d b (x d))), xPts_blocks, oPts_blocks, ← bigSep_sep']

end Cert.RowsIdeal.Run

end
-- ==== Proof.Rows.Run.lean ====
/-
  The run of the SparseCore call alone: @main on the TensorCore — the reshape, the cut, the launch — and what every final
  state holds.
-/
module

public import proofs.«01_k».proof.Proof.Rows.Sc

@[expose] public section

set_option maxRecDepth 16384

noncomputable section

namespace Cert.RowsIdeal.Run

open Cert.RowsIdeal Cert.RowsIdeal.Gen
open Idealize.ShloMosaic Idealize.ShloMosaic.TcCoe Idealize.ShloMosaic.StableHlo
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 1) (Elt F) ℕ UU ℕ

/-- The line before the launch. -/
abbrev ops : List (HloOp τ sig (Elt F)) :=
  [ reshape main_arg0 main_v0 (rfl : (.f32 : EltTy) = .f32) shapeCasts_S3x64x256x256_S3072x4096,
    unary main_v0 main_v1 ((extractStridedSlice S768x4096 ![0, 0] · slices_S3072x4096_S768x4096_0_0) : (⟨S3072x4096, .f32⟩ : BufTy).Contents (Elt F) → (⟨S768x4096, .f32⟩ : BufTy).Contents (Elt F)) ]

theorem ops_sub : (ops : List (HloOp τ sig (Elt F))).Forall fun op => op.bufs ⊆ tcRefs τ sig :=
  ⟨reshape_bufs_sub .., unary_bufs_sub ..⟩
theorem ops_fresh : ∀ op ∈ (ops : List (HloOp τ sig (Elt F))), op.fresh = ∅ := by
  intro _ h; (repeat (cases h with | head => rfl | tail _ h => ?_)); exact nomatch h

/-- @main: the line, the SparseCore launch. -/
theorem main_eq (d : Dev nD) : (main (F := F) d) = seqK ops ((sc (F := F)).run d 0 >>= fun _ => .ret ⟨⟩) := rfl

abbrev a0' : DevRef τ sig := Proc.devRef .tc (main_arg0 : Ref sig .tc)
abbrev x1' : DevRef τ sig := Proc.devRef .tc (main_v1 : Ref sig .tc)
abbrev o2' : DevRef τ sig := Proc.devRef .tc (main_v2 : Ref sig .tc)

/-- The rows the launch is given. -/
def rows (x : S3x64x256x256.Idx → Elt F .f32) : S768x4096.Idx → Elt F .f32 :=
  extractStridedSlice S768x4096 ![0, 0] (shapeCast S3072x4096 x shapeCasts_S3x64x256x256_S3072x4096) slices_S3072x4096_S768x4096_0_0

theorem line_a0 (V : Valuation τ sig (Elt F)) : after ops V a0' = V a0' := by
  after_results
theorem line_x1 (V : Valuation τ sig (Elt F)) : after ops V x1' = rows (V a0') := by
  after_results
  rfl

theorem mem_uc (r : Ref sig .tc) (h : r.isScoped = false) : Proc.devRef (τ := τ) .tc r ∈ Pipeline.ucRefs τ sig :=
  Finset.mem_filter.mpr ⟨devRef_mem_tcRefs r, fun h' => Bool.false_ne_true (h.symm.trans h')⟩

variable (m : (ℓ : Loc nD τ sig) → Buf (Elt F) ℓ) (ρ : Dev nD → PrngReg)

/-! ## The buffers' contents along @main -/

/-- At the launch of the program. -/
def W0 (d : Dev nD) : Valuation τ sig (Elt F) := fun b => m (d, b)
/-- The argument. -/
abbrev arg (d : Dev nD) : S3x64x256x256.Idx → Elt F .f32 := m ((SparseCore.T d : Thread nD τ).loc main_arg0)
/-- Before the SparseCore launch. -/
def W1 (d : Dev nD) : Valuation τ sig (Elt F) := after ops (W0 m d)
/-- What the SparseCore copies. -/
def scIn (d : Dev nD) : Buf (Elt F) (xLoc d) := rows (arg m d)

theorem W1_a0 (d : Dev nD) : W1 m d a0' = arg m d := by
  unfold W1
  rw [line_a0]
  rfl
theorem W1_x1 (d : Dev nD) : W1 m d x1' = scIn m d := by
  unfold W1
  rw [line_x1]
  rfl

abbrev S3 : Finset (DevRef τ sig) := {a0', x1', o2'}

theorem S3_sub : S3 ⊆ Pipeline.ucRefs τ sig := by
  intro b hb
  rcases Finset.mem_insert.mp hb with rfl | hb
  · exact mem_uc _ (by decide)
  rcases Finset.mem_insert.mp hb with rfl | hb
  · exact mem_uc _ (by decide)
  rw [Finset.mem_singleton.mp hb]
  exact mem_uc _ (by decide)

theorem held_S3 (d : Dev nD) (V : Valuation τ sig (Elt F)) :
    (held (SparseCore.T d) S3 V : sProp 𝕄)
      = iprop(((SparseCore.T d : Thread nD τ).loc main_arg0 ↦{fullShare} V a0') ∗ (xLoc d ↦{fullShare} V x1') ∗ (oLoc d ↦{fullShare} V o2')) := by
  unfold held S3
  rw [SparseCore.bigSep_insert' (by decide), SparseCore.bigSep_insert' (by decide), bigSep_singleton]

theorem out1 (d : Dev nD) : (held (SparseCore.T d) (Pipeline.ucRefs τ sig) (W1 m d) : sProp 𝕄)
    = iprop((((SparseCore.T d : Thread nD τ).loc main_arg0 ↦{fullShare} arg m d) ∗ (xLoc d ↦{fullShare} scIn m d) ∗ (oLoc d ↦{fullShare} W1 m d o2'))
      ∗ held (SparseCore.T d) (Pipeline.ucRefs τ sig \ S3) (W1 m d)) := by
  rw [held_sub_split _ S3_sub, held_S3, W1_a0, W1_x1]

/-- What @main leaves the claims. -/
abbrev FIN (d : Dev nD) : sProp 𝕄 :=
  iprop(((SparseCore.T d : Thread nD τ).loc main_arg0 ↦{fullShare} arg m d)
    ∗ (oLoc d ↦{fullShare} (show Buf (Elt F) (oLoc d) from scIn m d)))

/-! ## The launch's ghost state -/

def u₀ : UU := (initOf (K (F := F)).hsCells (K (F := F)).hsToks, 1)

theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P (scIn m)).x q thr) := by
  unfold u₀
  iintro Hu
  ihave H := (ownU_pair _ _) $$ Hu
  icases H with ⟨HH, -⟩
  imodintro
  isplitl [HH]; · iexact HH
  isplitr
  · rw [show (bigSep Finset.univ fun _ : Dev nD => iprop(emp)) = (iprop(emp) : sProp 𝕄) from bigSep_emp_const _]
    iempintro
  rw [show (bigSep Finset.univ fun thr : Thread nD τ => bigSep Finset.univ fun q : Fin 1 => (P (scIn m)).x q thr) = (iprop(emp) : sProp 𝕄) from
    (bigSep_congr fun _ _ => bigSep_emp_const _).trans (bigSep_emp_const _)]
  iempintro

/-! ## @main on the TensorCore -/

variable [∀ e, Nonempty (Elt F e)]

theorem hmain (κ : GSem nD τ sig → ℕ) (d : Dev nD) :
    iprop((K (F := F)).ctx EH (P (scIn m)) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [show (unscopedBufs d (fun b => m ((SparseCore.T d).loc b)) : sProp 𝕄) = held (SparseCore.T d) (Pipeline.ucRefs τ sig) (W0 m d) from
    Pipeline.unscopedBufs_held d (W0 m d), main_eq, ← seq_bind_seqK]
  iintro ⟨#Hctx, Hst, ⟨Hb, Hheld, Hts, -⟩, -⟩
  iapply (wp_seq (defs := (K (F := F)).defs (D (F := F))) 𝒱 none Set.univ d (Pipeline.ucRefs τ sig) _ ops
    (fun op h => Pipeline.sub_ucRefs op ((List.forall_iff_forall_mem.mp ops_sub) op h)) ops_fresh (W0 m d)) $$ [Hb Hheld]
  · isplitl [Hb] <;> iassumption
  iintro ⟨Hb, Hheld⟩
  ihave Hh := (show held (d.tc : Thread nD τ) (Pipeline.ucRefs τ sig) (after ops (W0 m d)) ⊢ _ from Entails.of_eq (out1 m d)) $$ Hheld
  icases Hh with ⟨⟨Ha, Hx, Ho⟩, -⟩
  rw [wp_bind]
  iapply ((K (F := F)).wp_run (D (F := F)) 𝒱 (EH := EH) (P := P (scIn m)) κ d 0) $$ [Hst Ha Hx Ho Hb Hts]
  isplitr; · iexact Hctx
  isplitl [Hst]; · iexact Hst
  isplitl [Hx Ho]
  · iapply (st_of_whole (scIn m) d _)
    isplitl [Hx] <;> iassumption
  iintro ⟨Hst, Hdn⟩
  ihave Hdn' := (whole_of_dn (scIn m) d) $$ Hdn
  icases Hdn' with ⟨-, Ho⟩
  rw [wp_ret]; imodintro
  isplitl [Hst]; · iexact Hst
  isplitl [Ha Ho]
  · isplitl [Ha] <;> iassumption
  isplitl [Hb] <;> iassumption

/-- What the claims read of device `d`'s final state. -/
def fq (d : Dev nD) (s' : Phys nD τ sig (Elt F)) : Prop :=
  s'.mem.mem ((SparseCore.T d : Thread nD τ).loc main_arg0) = arg m d
    ∧ s'.mem.mem ((SparseCore.T d : Thread nD τ).loc main_v2) = rows (arg m d)

theorem hfin (d : Dev nD) (s' : Phys nD τ sig (Elt F)) : iprop(FIN m d ∗ SI s') ⊢ (⌜fq m d s'⌝ : sProp 𝕄) := by
  iintro ⟨⟨Ha, Ho⟩, HSI⟩
  ihave H := (persistent_entails_right (SI_pointsTo_agree (st := s') (ℓ := (SparseCore.T d : Thread nD τ).loc main_arg0) (I := Finset.univ) (q := fullShare)
    (f := arg m d))) $$ [HSI Ha]
  · isplitl [HSI] <;> iassumption
  icases H with ⟨%ha, HSI, -⟩
  ihave H := (SI_pointsTo_agree (st := s') (ℓ := oLoc d) (I := Finset.univ) (q := fullShare) (f := (show Buf (Elt F) (oLoc d) from scIn m d))) $$ [HSI Ho]
  · isplitl [HSI] <;> iassumption
  icases H with %ho
  ipureintro
  exact ⟨funext fun i => ha i (Finset.mem_univ i), funext fun i => ho i (Finset.mem_univ i)⟩

/-! ## The program's run -/

def QC : PUnit × MemSt nD τ sig (Elt F) → Prop := fun r =>
  (∀ c : Dev nD, r.2.mem ((SparseCore.T c : Thread nD τ).loc main_arg0) = arg m c
    ∧ r.2.mem ((SparseCore.T c : Thread nD τ).loc main_v2) = rows (arg m c)) ∧ r.2.sem = fun _ => 0

/-- Every execution from a memory with zero counters ends, nothing faulting, its counters at zero again, the argument
    unchanged and the result the rows. -/
theorem run_main : θ_run (defs (F := F)) (threads (F := F)) ⟨m, fun _ => 0, ρ⟩ (QC m) :=
  SparseCore.Cfg.θ_run_sc_quiescent (K := K (F := F)) (D := D (F := F)) (𝒱 := 𝒱) (EH := EH) (P := P (scIn m)) (A := ∅) scFacts v₀
    (fun q hq => match q with | 0 => nomatch hq)
    (fun q _ => match q with | 0 => tileObl (scIn m))
    (fun q _ => match q with | 0 => SparseCore.Cfg.VecSplit.of_plain (vecSplit (scIn m)))
    m ρ main (fun _ => iprop(emp)) (FIN m) (u₀ (F := F)) (sep_elim_left.trans (hu₀ m)) (hmain m ρ) (fq m) (hfin m) (QC m) (fun _ h hz => ⟨h, hz⟩)

end Cert.RowsIdeal.Run

end
-- ==== Proof.Rows.Value.lean ====
/-
  The SparseCore call's value: row `r`, column `c` of what it writes is the word at place `4096·r + c` of the first
  clip's frames, and so is the reference's.
-/
module

public import proofs.«01_k».proof.Proof.Rows.Run
public import proofs.«01_k».proof.Proof.Gen.RowsReferenceIdeal
public import Idealize.ShloMosaic.Lib.ValueIdx
public import Idealize.ShloMosaic.Lib.Pipeline.Value
public import Idealize.ShloMosaic.Lib.Pointwise

@[expose] public section

set_option maxRecDepth 16384

noncomputable section

namespace Cert.RowsReferenceIdeal.Run

open Cert.RowsReferenceIdeal Cert.RowsReferenceIdeal.Gen
open Idealize.ShloMosaic Idealize.ShloMosaic.TcCoe Idealize.ShloMosaic.StableHlo Idealize.SL.Sem

variable {F : FTy → Type} [FloatOps F]

/-- Where the word at `j` of the rows lies in the frames. -/
def place (j : S768x4096.Idx) : S3x64x256x256.Idx :=
  ValueIdx.ix4 0
    ⟨(4096 * (j 0).val + (j 1).val) / 65536, by
      have h0 : (j 0).val < 768 := (j 0).isLt
      have h1 : (j 1).val < 4096 := (j 1).isLt
      show _ < 64
      omega⟩
    ⟨(4096 * (j 0).val + (j 1).val) / 256 % 256, Nat.mod_lt _ (by decide)⟩
    ⟨(4096 * (j 0).val + (j 1).val) % 256, Nat.mod_lt _ (by decide)⟩

/-- The kernel's rows are the words at those places. -/
theorem rows_at (x : S3x64x256x256.Idx → Elt F .f32) (j : S768x4096.Idx) : Cert.RowsIdeal.Run.rows x j = x (place j) := by
  have h0 : (j 0).val < 768 := (j 0).isLt
  have h1 : (j 1).val < 4096 := (j 1).isLt
  unfold Cert.RowsIdeal.Run.rows
  rw [extractStridedSlice_apply _ _ _ j (ValueIdx.ix2 (⟨(j 0).val, by omega⟩ : Fin 3072) (⟨(j 1).val, h1⟩ : Fin 4096))
    (by intro a; match a with | 0 => simp [ValueIdx.ix2] | 1 => simp [ValueIdx.ix2])]
  refine shapeCast_apply _ _ _ (place j) ?_
  rw [Shape.rowMajor_val_four, Shape.rowMajor_val_two]
  simp only [place, ValueIdx.ix4, ValueIdx.ix2]
  simp
  omega

/-- The reference's rows. -/
def cut (x : S3x64x256x256.Idx → Elt F .f32) : S768x4096.Idx → Elt F .f32 :=
  shapeCast S768x4096
    (shapeCast S48x256x256 (extractStridedSlice S1x48x256x256 ![0, 0, 0, 0] x slices_S3x64x256x256_S1x48x256x256_0_0_0_0)
      shapeCasts_S1x48x256x256_S48x256x256) shapeCasts_S48x256x256_S768x4096

theorem cut_at (x : S3x64x256x256.Idx → Elt F .f32) (j : S768x4096.Idx) : cut x j = x (place j) := by
  have h0 : (j 0).val < 768 := (j 0).isLt
  have h1 : (j 1).val < 4096 := (j 1).isLt
  unfold cut
  rw [shapeCast_comp]
  rw [shapeCast_apply _ _ j (ValueIdx.ix4 (0 : Fin 1)
    (⟨(4096 * (j 0).val + (j 1).val) / 65536, by omega⟩ : Fin 48)
    (⟨(4096 * (j 0).val + (j 1).val) / 256 % 256, Nat.mod_lt _ (by decide)⟩ : Fin 256)
    (⟨(4096 * (j 0).val + (j 1).val) % 256, Nat.mod_lt _ (by decide)⟩ : Fin 256)) ?_]
  · refine extractStridedSlice_apply _ _ _ _ (place j) ?_
    intro a
    match a with
    | 0 => simp [place, ValueIdx.ix4]
    | 1 => simp [place, ValueIdx.ix4]
    | 2 => simp [place, ValueIdx.ix4]
    | 3 => simp [place, ValueIdx.ix4]
  · rw [Shape.rowMajor_val_four, Shape.rowMajor_val_two]
    simp only [ValueIdx.ix4]
    simp
    omega

theorem rows_eq_cut (x : S3x64x256x256.Idx → Elt F .f32) : Cert.RowsIdeal.Run.rows x = cut x :=
  funext fun j => (rows_at x j).trans (cut_at x j).symm

/-! ## The reference's run -/

/-- @main's operations, in order. -/
abbrev ops : List (HloOp τ sig (Elt F)) :=
  [ unary main_arg0 main_v0 ((extractStridedSlice S1x48x256x256 ![0, 0, 0, 0] · slices_S3x64x256x256_S1x48x256x256_0_0_0_0) : (⟨S3x64x256x256, .f32⟩ : BufTy).Contents (Elt F) → (⟨S1x48x256x256, .f32⟩ : BufTy).Contents (Elt F)),
    reshape main_v0 main_v1 (rfl : (.f32 : EltTy) = .f32) shapeCasts_S1x48x256x256_S48x256x256,
    reshape main_v1 main_v2 (rfl : (.f32 : EltTy) = .f32) shapeCasts_S48x256x256_S768x4096 ]

/-- @main is that straight line. -/
theorem main_eq (c : Dev nD) : main (F := F) c = seq ops := rfl

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨unary_bufs_sub .., reshape_bufs_sub .., reshape_bufs_sub ..⟩

theorem arg0_eq (V : Valuation τ sig (Elt F)) : after ops V (main_arg0 : DevRef τ sig) = V (main_arg0 : DevRef τ sig) := by
  after_results
theorem v2_eq (V : Valuation τ sig (Elt F)) : after ops V (main_v2 : DevRef τ sig) = cut (V (main_arg0 : DevRef τ sig)) := by
  after_results
  rfl

end Cert.RowsReferenceIdeal.Run

end
-- ==== Proof.Rows.Same.lean ====
/-
  The SparseCore call's text is its idealization's: one body table and one @main, whichever module names them.
-/
module

public import proofs.«01_k».proof.Defs
public import proofs.«01_k».proof.Proof.Gen.Rows
public import proofs.«01_k».proof.Proof.Gen.RowsIdeal

@[expose] public section

set_option maxRecDepth 16384

noncomputable section

namespace Cert.SameRows

open Idealize.ShloMosaic Idealize.SL.Sem

variable {F : FTy → Type} [FloatOps F]

/-- The kernel's body, processor by processor. -/
theorem bodies_eq : Cert.Rows.defs₀ (F := F) = Cert.RowsIdeal.defs₀ (F := F) := by
  funext p l a
  match p, l, a with
  | .tc, 0, _ => rfl
  | .scVector c s, 0, _ => rfl
  | .scScalar c, 0, _ => rfl

theorem defs_eq : Cert.Rows.defs (F := F) = Cert.RowsIdeal.defs (F := F) :=
  congrArg (fun e => SparseCore.Cfg.defs (Cert.RowsIdeal.sc (F := F)) (Pipeline.defs Cert.RowsIdeal.pcfgs e)) bodies_eq

theorem main_eq (d : Dev Cert.Rows.nD) : Cert.Rows.main (F := F) d = Cert.RowsIdeal.main (F := F) d := rfl

theorem threads_eq : Cert.Rows.threads (F := F) = Cert.RowsIdeal.threads (F := F) :=
  congrArg (SparseCore.Cfg.threads (Cert.RowsIdeal.sc (F := F))) (funext main_eq)

end Cert.SameRows

end
-- ==== Proof.lean ====
/-
  The claims about the slow and fast pathways' kernel: the program's run, its idealization's run and the reference's run
  end with every counter at zero and the argument unchanged; the idealization is the program's own text; and over the
  extended reals the idealization's two results are the reference's. The frame and the results are over the extended
  reals also proved of the kernel whose table is evenly spaced floats cut down to integers. The same five claims are
  proved of the SparseCore call alone: what it writes is the first clip's first forty-eight frames, laid out in rows.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Flash
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Flash
public import proofs.«01_k».proof.Proof.Gen.VerbatimIdeal
public import proofs.«01_k».proof.Proof.Gen.VerbatimIdeal.Skeleton
public import proofs.«01_k».proof.Proof.Gen.VerbatimIdeal.Launch
public import proofs.«01_k».proof.Proof.Gen.VerbatimIdeal.Flash
public import proofs.«01_k».proof.Proof.Gen.ReferenceIdeal
public import proofs.«01_k».proof.Proof.Gen.Rows
public import proofs.«01_k».proof.Proof.Gen.Rows.Skeleton
public import proofs.«01_k».proof.Proof.Gen.RowsIdeal
public import proofs.«01_k».proof.Proof.Gen.RowsIdeal.Skeleton
public import proofs.«01_k».proof.Proof.Gen.RowsReferenceIdeal
public import proofs.«01_k».proof.Proof.Value
public import proofs.«01_k».proof.Proof.Verb.Value
public import proofs.«01_k».proof.Proof.Same
public import proofs.«01_k».proof.Proof.Rows.Value
public import proofs.«01_k».proof.Proof.Rows.Same
public import Idealize.ShloMosaic.Adequacy
public import Idealize.ShloMosaic.Init

@[expose] public section

noncomputable section

namespace Cert.Proof

open Idealize.ShloMosaic Idealize.SL.Sem Cert.Kernel

/-- The program's run: its text is the idealization's, whose run holds at any floats. -/
theorem frame_kernel : Cert.quiescent_Kernel := by
  intro m ρ _
  rw [Cert.Same.defs_eq, Cert.Same.threads_eq]
  exact (θ_run Cert.KernelIdeal.defs _ _).mono (fun _ h => ⟨fun c => (h.1 c).1, h.2⟩) (Cert.KernelIdeal.Run.run_main (F := Bits) m ρ)

theorem frame_ideal : Cert.quiescent_KernelIdeal := fun m ρ _ =>
  (θ_run Cert.KernelIdeal.defs _ _).mono (fun _ h => ⟨fun c => (h.1 c).1, h.2⟩) (Cert.KernelIdeal.Run.run_main (F := Ideal) m ρ)

/-- The same of the kernel with its own table, over the extended reals. -/
theorem frame_verbatim : Cert.quiescent_VerbatimIdeal := fun m ρ _ =>
  (θ_run Cert.VerbatimIdeal.defs _ _).mono (fun _ h => ⟨fun c => (h.1 c).1, h.2⟩) (Cert.VerbatimIdeal.Run.run_main m ρ)

/-- The reference's run, at its result and its argument. -/
theorem ref_run (m : (ℓ : Loc Cert.ReferenceIdeal.nD Cert.ReferenceIdeal.τ Cert.ReferenceIdeal.sig) → Buf (Elt Ideal) ℓ)
    (ρ : Dev Cert.ReferenceIdeal.nD → PrngReg) :
    θ_run (Cert.ReferenceIdeal.defs (F := Ideal)) (onTc (τ := Cert.ReferenceIdeal.τ) (Cert.ReferenceIdeal.main (F := Ideal))) ⟨m, fun _ => 0, ρ⟩
      (fun r => ∀ c : Dev Cert.ReferenceIdeal.nD,
        r.2.mem ((c.tc : Thread Cert.ReferenceIdeal.nD Cert.ReferenceIdeal.τ).loc Cert.ReferenceIdeal.main_v2)
            = (fun j => m ((c.tc : Thread Cert.ReferenceIdeal.nD Cert.ReferenceIdeal.τ).loc Cert.ReferenceIdeal.main_arg0) (Cert.ReferenceIdeal.Run.source j))
        ∧ r.2.mem ((c.tc : Thread Cert.ReferenceIdeal.nD Cert.ReferenceIdeal.τ).loc Cert.ReferenceIdeal.main_arg0)
            = m ((c.tc : Thread Cert.ReferenceIdeal.nD Cert.ReferenceIdeal.τ).loc Cert.ReferenceIdeal.main_arg0)) :=
  (θ_run Cert.ReferenceIdeal.defs _ _).mono
    (fun r h c => ⟨(h c Cert.ReferenceIdeal.main_v2).trans (Cert.ReferenceIdeal.Run.v2_value _),
      (h c Cert.ReferenceIdeal.main_arg0).trans (Cert.ReferenceIdeal.Run.arg0_eq _)⟩)
    (StableHlo.run_seq Cert.ReferenceIdeal.Run.scopedRefs_eq Cert.ReferenceIdeal.Run.scopedSems_eq Cert.ReferenceIdeal.defs
      Cert.ReferenceIdeal.main (fun _ => Cert.ReferenceIdeal.Run.ops) Cert.ReferenceIdeal.Run.main_eq (fun _ => Cert.ReferenceIdeal.Run.ops_sub) m ρ)

theorem frame_ref : Cert.quiescent_ReferenceIdeal := fun m ρ _ =>
  (θ_run Cert.ReferenceIdeal.defs _ _).mono (fun r h => ⟨fun c => (h c).2, sem_eq_zero_of_no_sems (by decide) r.2⟩) (ref_run m ρ)

/-- Both results: the frames the positions name, and the frames themselves. -/
theorem algebraic : Cert.algebraic_KernelIdeal_ReferenceIdeal := by
  intro m ρ m' ρ' _ hagree
  refine ⟨fun c => fun j => m ((c.tc : Thread Cert.KernelIdeal.nD Cert.KernelIdeal.τ).loc Cert.KernelIdeal.main_arg0) (Cert.ReferenceIdeal.Run.source j),
    fun c => m ((c.tc : Thread Cert.KernelIdeal.nD Cert.KernelIdeal.τ).loc Cert.KernelIdeal.main_arg0), ?_, ?_⟩
  · refine (θ_run Cert.KernelIdeal.defs _ _).mono (fun r h c => ⟨?_, (h.1 c).2.2, (h.1 c).1⟩) (Cert.KernelIdeal.Run.run_main (F := Ideal) m ρ)
    refine (h.1 c).2.1.trans ?_
    rw [Cert.KernelIdeal.Run.final_eq, Cert.KernelIdeal.Run.slow_eq]
    rfl
  · refine (θ_run Cert.ReferenceIdeal.defs _ _).mono (fun r h c => ⟨?_, ?_, (h c).2⟩) (ref_run m' ρ')
    · refine (h c).1.trans ?_
      rw [hagree c]
      rfl
    · exact (h c).2.trans (hagree c)

/-- The kernel with its own table: the frames the positions name, and the frames themselves. -/
theorem algebraic_verbatim : Cert.algebraic_VerbatimIdeal_ReferenceIdeal := by
  intro m ρ m' ρ' _ hagree
  refine ⟨fun c => fun j => m ((c.tc : Thread Cert.VerbatimIdeal.nD Cert.VerbatimIdeal.τ).loc Cert.VerbatimIdeal.main_arg0) (Cert.ReferenceIdeal.Run.source j),
    fun c => m ((c.tc : Thread Cert.VerbatimIdeal.nD Cert.VerbatimIdeal.τ).loc Cert.VerbatimIdeal.main_arg0), ?_, ?_⟩
  · refine (θ_run Cert.VerbatimIdeal.defs _ _).mono (fun r h c => ⟨?_, (h.1 c).2.2, (h.1 c).1⟩) (Cert.VerbatimIdeal.Run.run_main m ρ)
    refine (h.1 c).2.1.trans ?_
    rw [Cert.VerbatimIdeal.Run.final_eq, Cert.VerbatimIdeal.Run.slow_eq]
    rfl
  · refine (θ_run Cert.ReferenceIdeal.defs _ _).mono (fun r h c => ⟨?_, ?_, (h c).2⟩) (ref_run m' ρ')
    · refine (h c).1.trans ?_
      rw [hagree c]
      rfl
    · exact (h c).2.trans (hagree c)

/-! ## The SparseCore call alone -/

theorem frame_rows : Cert.quiescent_Rows := by
  intro m ρ _
  rw [Cert.SameRows.defs_eq, Cert.SameRows.threads_eq]
  exact (θ_run Cert.RowsIdeal.defs _ _).mono (fun _ h => ⟨fun c => (h.1 c).1, h.2⟩) (Cert.RowsIdeal.Run.run_main (F := Bits) m ρ)

theorem frame_rows_ideal : Cert.quiescent_RowsIdeal := fun m ρ _ =>
  (θ_run Cert.RowsIdeal.defs _ _).mono (fun _ h => ⟨fun c => (h.1 c).1, h.2⟩) (Cert.RowsIdeal.Run.run_main (F := Ideal) m ρ)

/-- The run of the rows' reference, at its result and its argument. -/
theorem rows_ref_run (m : (ℓ : Loc Cert.RowsReferenceIdeal.nD Cert.RowsReferenceIdeal.τ Cert.RowsReferenceIdeal.sig) → Buf (Elt Ideal) ℓ)
    (ρ : Dev Cert.RowsReferenceIdeal.nD → PrngReg) :
    θ_run (Cert.RowsReferenceIdeal.defs (F := Ideal)) (onTc (τ := Cert.RowsReferenceIdeal.τ) (Cert.RowsReferenceIdeal.main (F := Ideal))) ⟨m, fun _ => 0, ρ⟩
      (fun r => ∀ c : Dev Cert.RowsReferenceIdeal.nD,
        r.2.mem ((c.tc : Thread Cert.RowsReferenceIdeal.nD Cert.RowsReferenceIdeal.τ).loc Cert.RowsReferenceIdeal.main_v2)
            = Cert.RowsReferenceIdeal.Run.cut (m ((c.tc : Thread Cert.RowsReferenceIdeal.nD Cert.RowsReferenceIdeal.τ).loc Cert.RowsReferenceIdeal.main_arg0))
        ∧ r.2.mem ((c.tc : Thread Cert.RowsReferenceIdeal.nD Cert.RowsReferenceIdeal.τ).loc Cert.RowsReferenceIdeal.main_arg0)
            = m ((c.tc : Thread Cert.RowsReferenceIdeal.nD Cert.RowsReferenceIdeal.τ).loc Cert.RowsReferenceIdeal.main_arg0)) :=
  (θ_run Cert.RowsReferenceIdeal.defs _ _).mono
    (fun r h c => ⟨(h c Cert.RowsReferenceIdeal.main_v2).trans (Cert.RowsReferenceIdeal.Run.v2_eq _),
      (h c Cert.RowsReferenceIdeal.main_arg0).trans (Cert.RowsReferenceIdeal.Run.arg0_eq _)⟩)
    (StableHlo.run_seq Cert.RowsReferenceIdeal.Run.scopedRefs_eq Cert.RowsReferenceIdeal.Run.scopedSems_eq Cert.RowsReferenceIdeal.defs
      Cert.RowsReferenceIdeal.main (fun _ => Cert.RowsReferenceIdeal.Run.ops) Cert.RowsReferenceIdeal.Run.main_eq
      (fun _ => Cert.RowsReferenceIdeal.Run.ops_sub) m ρ)

theorem frame_rows_ref : Cert.quiescent_RowsReferenceIdeal := fun m ρ _ =>
  (θ_run Cert.RowsReferenceIdeal.defs _ _).mono (fun r h => ⟨fun c => (h c).2, sem_eq_zero_of_no_sems (by decide) r.2⟩) (rows_ref_run m ρ)

/-- What the SparseCore writes is the reference's rows. -/
theorem algebraic_rows : Cert.algebraic_RowsIdeal_RowsReferenceIdeal := by
  intro m ρ m' ρ' _ hagree
  refine ⟨fun c => Cert.RowsIdeal.Run.rows (m ((c.tc : Thread Cert.RowsIdeal.nD Cert.RowsIdeal.τ).loc Cert.RowsIdeal.main_arg0)), ?_, ?_⟩
  · exact (θ_run Cert.RowsIdeal.defs _ _).mono (fun r h c => ⟨(h.1 c).2, (h.1 c).1⟩) (Cert.RowsIdeal.Run.run_main (F := Ideal) m ρ)
  · refine (θ_run Cert.RowsReferenceIdeal.defs _ _).mono (fun r h c => ⟨?_, (h c).2⟩) (rows_ref_run m' ρ')
    refine (h c).1.trans ?_
    rw [hagree c]
    exact (Cert.RowsReferenceIdeal.Run.rows_eq_cut _).symm

theorem claim : Cert.Claim := ⟨Cert.Kernel.Gen.facts, Cert.KernelIdeal.Gen.facts, Cert.ReferenceIdeal.Gen.facts, Cert.VerbatimIdeal.Gen.facts,
  Cert.Rows.Gen.facts, Cert.RowsIdeal.Gen.facts, Cert.RowsReferenceIdeal.Gen.facts,
  frame_kernel, frame_ideal, frame_ref, frame_verbatim, frame_rows, frame_rows_ideal, frame_rows_ref,
  trivial, algebraic, algebraic_verbatim, trivial, algebraic_rows⟩

end Cert.Proof

end
